-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x8192 : Shape := ⟨2, ![4096, 8192]⟩
abbrev S1 : Shape := ⟨1, ![1]⟩
abbrev S256x8192 : Shape := ⟨2, ![256, 8192]⟩
abbrev S16x256x256 : Shape := ⟨3, ![16, 256, 256]⟩
abbrev S2x256x8192 : Shape := ⟨3, ![2, 256, 8192]⟩
abbrev S16 : Shape := ⟨1, ![16]⟩
abbrev S2 : Shape := ⟨1, ![2]⟩
abbrev S_ : Shape := ⟨0, ![]⟩
abbrev S1x256x256 : Shape := ⟨3, ![1, 256, 256]⟩
abbrev S256x256 : Shape := ⟨2, ![256, 256]⟩
abbrev S1x256x8192 : Shape := ⟨3, ![1, 256, 8192]⟩

abbrev nBuf : Space → Nat
  | .hbm => 5
  | .vmem => 5
  | .smem => 2
  | _ => 0

abbrev bufTy : (tb : Table) → Fin (tcTables nBuf tb) → BufTy
  | .hbm, ⟨0, _⟩ => ⟨S4096x256, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S256x8192, .f32⟩
  | .local _ .vmem, ⟨0, _⟩ => ⟨S4096x256, .f32⟩
  | .local _ .vmem, ⟨1, _⟩ => ⟨S256x8192, .f32⟩
  | .local _ .vmem, ⟨2, _⟩ => ⟨S16x256x256, .fp8e5m2⟩
  | .local _ .vmem, ⟨3, _⟩ => ⟨S16x256x256, .fp8e5m2⟩
  | .local _ .vmem, ⟨4, _⟩ => ⟨S2x256x8192, .f32⟩
  | .local _ .smem, ⟨0, _⟩ => ⟨S1, .f32⟩
  | .local _ .smem, ⟨1, _⟩ => ⟨S1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c1_i32_140 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v206 : BitVec 32 := Scalar.addi v2 c1_i32_140
  let c16_i32_141 : BitVec 32 := 16#32
  let c0_i32_142 : BitVec 32 := 0#32
  let v207 : BitVec 1 := Scalar.cmpi .eq c16_i32_141 c0_i32_142
  let c1_i32_143 : BitVec 32 := 1#32
  let v208 : BitVec 32 := Scalar.select v207 c1_i32_143 c16_i32_141
  let v209 : BitVec 32 := Scalar.remsi v206 v208
  let c0_i32_145 : BitVec 32 := 0#32
  let v211 : BitVec 1 := Scalar.cmpi .slt v209 c0_i32_145
  let c0_i32_146 : BitVec 32 := 0#32
  let v212 : BitVec 1 := Scalar.cmpi .slt v208 c0_i32_146
  let v213 : BitVec 1 := Scalar.xori v211 v212
  let c0_i32_144 : BitVec 32 := 0#32
  let v210 : BitVec 1 := Scalar.cmpi .ne v209 c0_i32_144
  let v214 : BitVec 1 := Scalar.andi v213 v210
  let v215 : BitVec 32 := Scalar.addi v209 v208
  let v216 : BitVec 32 := Scalar.select v214 v215 v209
  let c0_i32_154 : BitVec 32 := 0#32
  let c0_i32_155 : BitVec 32 := 0#32
  ![v216.toNat, 0, 0]
def k0_dev16 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_140 : BitVec 32 := 1#32
  let v206 : BitVec 32 := Scalar.addi v2 c1_i32_140
  let c16_i32_141 : BitVec 32 := 16#32
  let c0_i32_142 : BitVec 32 := 0#32
  let v207 : BitVec 1 := Scalar.cmpi .eq c16_i32_141 c0_i32_142
  let c1_i32_143 : BitVec 32 := 1#32
  let v208 : BitVec 32 := Scalar.select v207 c1_i32_143 c16_i32_141
  let v209 : BitVec 32 := Scalar.remsi v206 v208
  let c0_i32_145 : BitVec 32 := 0#32
  let v211 : BitVec 1 := Scalar.cmpi .slt v209 c0_i32_145
  let c0_i32_146 : BitVec 32 := 0#32
  let v212 : BitVec 1 := Scalar.cmpi .slt v208 c0_i32_146
  let v213 : BitVec 1 := Scalar.xori v211 v212
  let c0_i32_144 : BitVec 32 := 0#32
  let v210 : BitVec 1 := Scalar.cmpi .ne v209 c0_i32_144
  let v214 : BitVec 1 := Scalar.andi v213 v210
  let v215 : BitVec 32 := Scalar.addi v209 v208
  let v216 : BitVec 32 := Scalar.select v214 v215 v209
  let c1_i32_150 : BitVec 32 := 1#32
  let v217 : BitVec 32 := Scalar.muli v216 c1_i32_150
  let v218 : BitVec 32 := Scalar.addi c0_i32_151 v217
  v218.toNat
def k0_dev17 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_156 : BitVec 32 := 2#32
  let v227 : BitVec 32 := Scalar.addi v2 c2_i32_156
  let c16_i32_157 : BitVec 32 := 16#32
  let c0_i32_158 : BitVec 32 := 0#32
  let v228 : BitVec 1 := Scalar.cmpi .eq c16_i32_157 c0_i32_158
  let c1_i32_159 : BitVec 32 := 1#32
  let v229 : BitVec 32 := Scalar.select v228 c1_i32_159 c16_i32_157
  let v230 : BitVec 32 := Scalar.remsi v227 v229
  let c0_i32_161 : BitVec 32 := 0#32
  let v232 : BitVec 1 := Scalar.cmpi .slt v230 c0_i32_161
  let c0_i32_162 : BitVec 32 := 0#32
  let v233 : BitVec 1 := Scalar.cmpi .slt v229 c0_i32_162
  let v234 : BitVec 1 := Scalar.xori v232 v233
  let c0_i32_160 : BitVec 32 := 0#32
  let v231 : BitVec 1 := Scalar.cmpi .ne v230 c0_i32_160
  let v235 : BitVec 1 := Scalar.andi v234 v231
  let v236 : BitVec 32 := Scalar.addi v230 v229
  let v237 : BitVec 32 := Scalar.select v235 v236 v230
  let c1_i32_166 : BitVec 32 := 1#32
  let v238 : BitVec 32 := Scalar.muli v237 c1_i32_166
  let v239 : BitVec 32 := Scalar.addi c0_i32_167 v238
  v239.toNat
def k0_dev18 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_172 : BitVec 32 := 3#32
  let v248 : BitVec 32 := Scalar.addi v2 c3_i32_172
  let c16_i32_173 : BitVec 32 := 16#32
  let c0_i32_174 : BitVec 32 := 0#32
  let v249 : BitVec 1 := Scalar.cmpi .eq c16_i32_173 c0_i32_174
  let c1_i32_175 : BitVec 32 := 1#32
  let v250 : BitVec 32 := Scalar.select v249 c1_i32_175 c16_i32_173
  let v251 : BitVec 32 := Scalar.remsi v248 v250
  let c0_i32_177 : BitVec 32 := 0#32
  let v253 : BitVec 1 := Scalar.cmpi .slt v251 c0_i32_177
  let c0_i32_178 : BitVec 32 := 0#32
  let v254 : BitVec 1 := Scalar.cmpi .slt v250 c0_i32_178
  let v255 : BitVec 1 := Scalar.xori v253 v254
  let c0_i32_176 : BitVec 32 := 0#32
  let v252 : BitVec 1 := Scalar.cmpi .ne v251 c0_i32_176
  let v256 : BitVec 1 := Scalar.andi v255 v252
  let v257 : BitVec 32 := Scalar.addi v251 v250
  let v258 : BitVec 32 := Scalar.select v256 v257 v251
  let c1_i32_182 : BitVec 32 := 1#32
  let v259 : BitVec 32 := Scalar.muli v258 c1_i32_182
  let v260 : BitVec 32 := Scalar.addi c0_i32_183 v259
  v260.toNat
def k0_dev19 (d0 : Dev nD) : Nat :=
  let c0_i32_199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_188 : BitVec 32 := 4#32
  let v269 : BitVec 32 := Scalar.addi v2 c4_i32_188
  let c16_i32_189 : BitVec 32 := 16#32
  let c0_i32_190 : BitVec 32 := 0#32
  let v270 : BitVec 1 := Scalar.cmpi .eq c16_i32_189 c0_i32_190
  let c1_i32_191 : BitVec 32 := 1#32
  let v271 : BitVec 32 := Scalar.select v270 c1_i32_191 c16_i32_189
  let v272 : BitVec 32 := Scalar.remsi v269 v271
  let c0_i32_193 : BitVec 32 := 0#32
  let v274 : BitVec 1 := Scalar.cmpi .slt v272 c0_i32_193
  let c0_i32_194 : BitVec 32 := 0#32
  let v275 : BitVec 1 := Scalar.cmpi .slt v271 c0_i32_194
  let v276 : BitVec 1 := Scalar.xori v274 v275
  let c0_i32_192 : BitVec 32 := 0#32
  let v273 : BitVec 1 := Scalar.cmpi .ne v272 c0_i32_192
  let v277 : BitVec 1 := Scalar.andi v276 v273
  let v278 : BitVec 32 := Scalar.addi v272 v271
  let v279 : BitVec 32 := Scalar.select v277 v278 v272
  let c1_i32_198 : BitVec 32 := 1#32
  let v280 : BitVec 32 := Scalar.muli v279 c1_i32_198
  let v281 : BitVec 32 := Scalar.addi c0_i32_199 v280
  v281.toNat
def k0_dev20 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_204 : BitVec 32 := 5#32
  let v290 : BitVec 32 := Scalar.addi v2 c5_i32_204
  let c16_i32_205 : BitVec 32 := 16#32
  let c0_i32_206 : BitVec 32 := 0#32
  let v291 : BitVec 1 := Scalar.cmpi .eq c16_i32_205 c0_i32_206
  let c1_i32_207 : BitVec 32 := 1#32
  let v292 : BitVec 32 := Scalar.select v291 c1_i32_207 c16_i32_205
  let v293 : BitVec 32 := Scalar.remsi v290 v292
  let c0_i32_209 : BitVec 32 := 0#32
  let v295 : BitVec 1 := Scalar.cmpi .slt v293 c0_i32_209
  let c0_i32_210 : BitVec 32 := 0#32
  let v296 : BitVec 1 := Scalar.cmpi .slt v292 c0_i32_210
  let v297 : BitVec 1 := Scalar.xori v295 v296
  let c0_i32_208 : BitVec 32 := 0#32
  let v294 : BitVec 1 := Scalar.cmpi .ne v293 c0_i32_208
  let v298 : BitVec 1 := Scalar.andi v297 v294
  let v299 : BitVec 32 := Scalar.addi v293 v292
  let v300 : BitVec 32 := Scalar.select v298 v299 v293
  let c1_i32_214 : BitVec 32 := 1#32
  let v301 : BitVec 32 := Scalar.muli v300 c1_i32_214
  let v302 : BitVec 32 := Scalar.addi c0_i32_215 v301
  v302.toNat
def k0_dev21 (d0 : Dev nD) : Nat :=
  let c0_i32_231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_220 : BitVec 32 := 6#32
  let v311 : BitVec 32 := Scalar.addi v2 c6_i32_220
  let c16_i32_221 : BitVec 32 := 16#32
  let c0_i32_222 : BitVec 32 := 0#32
  let v312 : BitVec 1 := Scalar.cmpi .eq c16_i32_221 c0_i32_222
  let c1_i32_223 : BitVec 32 := 1#32
  let v313 : BitVec 32 := Scalar.select v312 c1_i32_223 c16_i32_221
  let v314 : BitVec 32 := Scalar.remsi v311 v313
  let c0_i32_225 : BitVec 32 := 0#32
  let v316 : BitVec 1 := Scalar.cmpi .slt v314 c0_i32_225
  let c0_i32_226 : BitVec 32 := 0#32
  let v317 : BitVec 1 := Scalar.cmpi .slt v313 c0_i32_226
  let v318 : BitVec 1 := Scalar.xori v316 v317
  let c0_i32_224 : BitVec 32 := 0#32
  let v315 : BitVec 1 := Scalar.cmpi .ne v314 c0_i32_224
  let v319 : BitVec 1 := Scalar.andi v318 v315
  let v320 : BitVec 32 := Scalar.addi v314 v313
  let v321 : BitVec 32 := Scalar.select v319 v320 v314
  let c1_i32_230 : BitVec 32 := 1#32
  let v322 : BitVec 32 := Scalar.muli v321 c1_i32_230
  let v323 : BitVec 32 := Scalar.addi c0_i32_231 v322
  v323.toNat
def k0_dev22 (d0 : Dev nD) : Nat :=
  let c0_i32_247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_236 : BitVec 32 := 7#32
  let v332 : BitVec 32 := Scalar.addi v2 c7_i32_236
  let c16_i32_237 : BitVec 32 := 16#32
  let c0_i32_238 : BitVec 32 := 0#32
  let v333 : BitVec 1 := Scalar.cmpi .eq c16_i32_237 c0_i32_238
  let c1_i32_239 : BitVec 32 := 1#32
  let v334 : BitVec 32 := Scalar.select v333 c1_i32_239 c16_i32_237
  let v335 : BitVec 32 := Scalar.remsi v332 v334
  let c0_i32_241 : BitVec 32 := 0#32
  let v337 : BitVec 1 := Scalar.cmpi .slt v335 c0_i32_241
  let c0_i32_242 : BitVec 32 := 0#32
  let v338 : BitVec 1 := Scalar.cmpi .slt v334 c0_i32_242
  let v339 : BitVec 1 := Scalar.xori v337 v338
  let c0_i32_240 : BitVec 32 := 0#32
  let v336 : BitVec 1 := Scalar.cmpi .ne v335 c0_i32_240
  let v340 : BitVec 1 := Scalar.andi v339 v336
  let v341 : BitVec 32 := Scalar.addi v335 v334
  let v342 : BitVec 32 := Scalar.select v340 v341 v335
  let c1_i32_246 : BitVec 32 := 1#32
  let v343 : BitVec 32 := Scalar.muli v342 c1_i32_246
  let v344 : BitVec 32 := Scalar.addi c0_i32_247 v343
  v344.toNat
def k0_dev23 (d0 : Dev nD) : Nat :=
  let c0_i32_263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_252 : BitVec 32 := 8#32
  let v353 : BitVec 32 := Scalar.addi v2 c8_i32_252
  let c16_i32_253 : BitVec 32 := 16#32
  let c0_i32_254 : BitVec 32 := 0#32
  let v354 : BitVec 1 := Scalar.cmpi .eq c16_i32_253 c0_i32_254
  let c1_i32_255 : BitVec 32 := 1#32
  let v355 : BitVec 32 := Scalar.select v354 c1_i32_255 c16_i32_253
  let v356 : BitVec 32 := Scalar.remsi v353 v355
  let c0_i32_257 : BitVec 32 := 0#32
  let v358 : BitVec 1 := Scalar.cmpi .slt v356 c0_i32_257
  let c0_i32_258 : BitVec 32 := 0#32
  let v359 : BitVec 1 := Scalar.cmpi .slt v355 c0_i32_258
  let v360 : BitVec 1 := Scalar.xori v358 v359
  let c0_i32_256 : BitVec 32 := 0#32
  let v357 : BitVec 1 := Scalar.cmpi .ne v356 c0_i32_256
  let v361 : BitVec 1 := Scalar.andi v360 v357
  let v362 : BitVec 32 := Scalar.addi v356 v355
  let v363 : BitVec 32 := Scalar.select v361 v362 v356
  let c1_i32_262 : BitVec 32 := 1#32
  let v364 : BitVec 32 := Scalar.muli v363 c1_i32_262
  let v365 : BitVec 32 := Scalar.addi c0_i32_263 v364
  v365.toNat
def k0_dev24 (d0 : Dev nD) : Nat :=
  let c0_i32_279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_268 : BitVec 32 := 9#32
  let v374 : BitVec 32 := Scalar.addi v2 c9_i32_268
  let c16_i32_269 : BitVec 32 := 16#32
  let c0_i32_270 : BitVec 32 := 0#32
  let v375 : BitVec 1 := Scalar.cmpi .eq c16_i32_269 c0_i32_270
  let c1_i32_271 : BitVec 32 := 1#32
  let v376 : BitVec 32 := Scalar.select v375 c1_i32_271 c16_i32_269
  let v377 : BitVec 32 := Scalar.remsi v374 v376
  let c0_i32_273 : BitVec 32 := 0#32
  let v379 : BitVec 1 := Scalar.cmpi .slt v377 c0_i32_273
  let c0_i32_274 : BitVec 32 := 0#32
  let v380 : BitVec 1 := Scalar.cmpi .slt v376 c0_i32_274
  let v381 : BitVec 1 := Scalar.xori v379 v380
  let c0_i32_272 : BitVec 32 := 0#32
  let v378 : BitVec 1 := Scalar.cmpi .ne v377 c0_i32_272
  let v382 : BitVec 1 := Scalar.andi v381 v378
  let v383 : BitVec 32 := Scalar.addi v377 v376
  let v384 : BitVec 32 := Scalar.select v382 v383 v377
  let c1_i32_278 : BitVec 32 := 1#32
  let v385 : BitVec 32 := Scalar.muli v384 c1_i32_278
  let v386 : BitVec 32 := Scalar.addi c0_i32_279 v385
  v386.toNat
def k0_dev25 (d0 : Dev nD) : Nat :=
  let c0_i32_295 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_284 : BitVec 32 := 10#32
  let v395 : BitVec 32 := Scalar.addi v2 c10_i32_284
  let c16_i32_285 : BitVec 32 := 16#32
  let c0_i32_286 : BitVec 32 := 0#32
  let v396 : BitVec 1 := Scalar.cmpi .eq c16_i32_285 c0_i32_286
  let c1_i32_287 : BitVec 32 := 1#32
  let v397 : BitVec 32 := Scalar.select v396 c1_i32_287 c16_i32_285
  let v398 : BitVec 32 := Scalar.remsi v395 v397
  let c0_i32_289 : BitVec 32 := 0#32
  let v400 : BitVec 1 := Scalar.cmpi .slt v398 c0_i32_289
  let c0_i32_290 : BitVec 32 := 0#32
  let v401 : BitVec 1 := Scalar.cmpi .slt v397 c0_i32_290
  let v402 : BitVec 1 := Scalar.xori v400 v401
  let c0_i32_288 : BitVec 32 := 0#32
  let v399 : BitVec 1 := Scalar.cmpi .ne v398 c0_i32_288
  let v403 : BitVec 1 := Scalar.andi v402 v399
  let v404 : BitVec 32 := Scalar.addi v398 v397
  let v405 : BitVec 32 := Scalar.select v403 v404 v398
  let c1_i32_294 : BitVec 32 := 1#32
  let v406 : BitVec 32 := Scalar.muli v405 c1_i32_294
  let v407 : BitVec 32 := Scalar.addi c0_i32_295 v406
  v407.toNat
def k0_dev26 (d0 : Dev nD) : Nat :=
  let c0_i32_311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_300 : BitVec 32 := 11#32
  let v416 : BitVec 32 := Scalar.addi v2 c11_i32_300
  let c16_i32_301 : BitVec 32 := 16#32
  let c0_i32_302 : BitVec 32 := 0#32
  let v417 : BitVec 1 := Scalar.cmpi .eq c16_i32_301 c0_i32_302
  let c1_i32_303 : BitVec 32 := 1#32
  let v418 : BitVec 32 := Scalar.select v417 c1_i32_303 c16_i32_301
  let v419 : BitVec 32 := Scalar.remsi v416 v418
  let c0_i32_305 : BitVec 32 := 0#32
  let v421 : BitVec 1 := Scalar.cmpi .slt v419 c0_i32_305
  let c0_i32_306 : BitVec 32 := 0#32
  let v422 : BitVec 1 := Scalar.cmpi .slt v418 c0_i32_306
  let v423 : BitVec 1 := Scalar.xori v421 v422
  let c0_i32_304 : BitVec 32 := 0#32
  let v420 : BitVec 1 := Scalar.cmpi .ne v419 c0_i32_304
  let v424 : BitVec 1 := Scalar.andi v423 v420
  let v425 : BitVec 32 := Scalar.addi v419 v418
  let v426 : BitVec 32 := Scalar.select v424 v425 v419
  let c1_i32_310 : BitVec 32 := 1#32
  let v427 : BitVec 32 := Scalar.muli v426 c1_i32_310
  let v428 : BitVec 32 := Scalar.addi c0_i32_311 v427
  v428.toNat
def k0_dev27 (d0 : Dev nD) : Nat :=
  let c0_i32_327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_316 : BitVec 32 := 12#32
  let v437 : BitVec 32 := Scalar.addi v2 c12_i32_316
  let c16_i32_317 : BitVec 32 := 16#32
  let c0_i32_318 : BitVec 32 := 0#32
  let v438 : BitVec 1 := Scalar.cmpi .eq c16_i32_317 c0_i32_318
  let c1_i32_319 : BitVec 32 := 1#32
  let v439 : BitVec 32 := Scalar.select v438 c1_i32_319 c16_i32_317
  let v440 : BitVec 32 := Scalar.remsi v437 v439
  let c0_i32_321 : BitVec 32 := 0#32
  let v442 : BitVec 1 := Scalar.cmpi .slt v440 c0_i32_321
  let c0_i32_322 : BitVec 32 := 0#32
  let v443 : BitVec 1 := Scalar.cmpi .slt v439 c0_i32_322
  let v444 : BitVec 1 := Scalar.xori v442 v443
  let c0_i32_320 : BitVec 32 := 0#32
  let v441 : BitVec 1 := Scalar.cmpi .ne v440 c0_i32_320
  let v445 : BitVec 1 := Scalar.andi v444 v441
  let v446 : BitVec 32 := Scalar.addi v440 v439
  let v447 : BitVec 32 := Scalar.select v445 v446 v440
  let c1_i32_326 : BitVec 32 := 1#32
  let v448 : BitVec 32 := Scalar.muli v447 c1_i32_326
  let v449 : BitVec 32 := Scalar.addi c0_i32_327 v448
  v449.toNat
def k0_dev28 (d0 : Dev nD) : Nat :=
  let c0_i32_343 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_332 : BitVec 32 := 13#32
  let v458 : BitVec 32 := Scalar.addi v2 c13_i32_332
  let c16_i32_333 : BitVec 32 := 16#32
  let c0_i32_334 : BitVec 32 := 0#32
  let v459 : BitVec 1 := Scalar.cmpi .eq c16_i32_333 c0_i32_334
  let c1_i32_335 : BitVec 32 := 1#32
  let v460 : BitVec 32 := Scalar.select v459 c1_i32_335 c16_i32_333
  let v461 : BitVec 32 := Scalar.remsi v458 v460
  let c0_i32_337 : BitVec 32 := 0#32
  let v463 : BitVec 1 := Scalar.cmpi .slt v461 c0_i32_337
  let c0_i32_338 : BitVec 32 := 0#32
  let v464 : BitVec 1 := Scalar.cmpi .slt v460 c0_i32_338
  let v465 : BitVec 1 := Scalar.xori v463 v464
  let c0_i32_336 : BitVec 32 := 0#32
  let v462 : BitVec 1 := Scalar.cmpi .ne v461 c0_i32_336
  let v466 : BitVec 1 := Scalar.andi v465 v462
  let v467 : BitVec 32 := Scalar.addi v461 v460
  let v468 : BitVec 32 := Scalar.select v466 v467 v461
  let c1_i32_342 : BitVec 32 := 1#32
  let v469 : BitVec 32 := Scalar.muli v468 c1_i32_342
  let v470 : BitVec 32 := Scalar.addi c0_i32_343 v469
  v470.toNat
def k0_dev29 (d0 : Dev nD) : Nat :=
  let c0_i32_359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_348 : BitVec 32 := 14#32
  let v479 : BitVec 32 := Scalar.addi v2 c14_i32_348
  let c16_i32_349 : BitVec 32 := 16#32
  let c0_i32_350 : BitVec 32 := 0#32
  let v480 : BitVec 1 := Scalar.cmpi .eq c16_i32_349 c0_i32_350
  let c1_i32_351 : BitVec 32 := 1#32
  let v481 : BitVec 32 := Scalar.select v480 c1_i32_351 c16_i32_349
  let v482 : BitVec 32 := Scalar.remsi v479 v481
  let c0_i32_353 : BitVec 32 := 0#32
  let v484 : BitVec 1 := Scalar.cmpi .slt v482 c0_i32_353
  let c0_i32_354 : BitVec 32 := 0#32
  let v485 : BitVec 1 := Scalar.cmpi .slt v481 c0_i32_354
  let v486 : BitVec 1 := Scalar.xori v484 v485
  let c0_i32_352 : BitVec 32 := 0#32
  let v483 : BitVec 1 := Scalar.cmpi .ne v482 c0_i32_352
  let v487 : BitVec 1 := Scalar.andi v486 v483
  let v488 : BitVec 32 := Scalar.addi v482 v481
  let v489 : BitVec 32 := Scalar.select v487 v488 v482
  let c1_i32_358 : BitVec 32 := 1#32
  let v490 : BitVec 32 := Scalar.muli v489 c1_i32_358
  let v491 : BitVec 32 := Scalar.addi c0_i32_359 v490
  v491.toNat
def k0_dev30 (d0 : Dev nD) : Nat :=
  let c0_i32_375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_364 : BitVec 32 := 15#32
  let v500 : BitVec 32 := Scalar.addi v2 c15_i32_364
  let c16_i32_365 : BitVec 32 := 16#32
  let c0_i32_366 : BitVec 32 := 0#32
  let v501 : BitVec 1 := Scalar.cmpi .eq c16_i32_365 c0_i32_366
  let c1_i32_367 : BitVec 32 := 1#32
  let v502 : BitVec 32 := Scalar.select v501 c1_i32_367 c16_i32_365
  let v503 : BitVec 32 := Scalar.remsi v500 v502
  let c0_i32_369 : BitVec 32 := 0#32
  let v505 : BitVec 1 := Scalar.cmpi .slt v503 c0_i32_369
  let c0_i32_370 : BitVec 32 := 0#32
  let v506 : BitVec 1 := Scalar.cmpi .slt v502 c0_i32_370
  let v507 : BitVec 1 := Scalar.xori v505 v506
  let c0_i32_368 : BitVec 32 := 0#32
  let v504 : BitVec 1 := Scalar.cmpi .ne v503 c0_i32_368
  let v508 : BitVec 1 := Scalar.andi v507 v504
  let v509 : BitVec 32 := Scalar.addi v503 v502
  let v510 : BitVec 32 := Scalar.select v508 v509 v503
  let c1_i32_374 : BitVec 32 := 1#32
  let v511 : BitVec 32 := Scalar.muli v510 c1_i32_374
  let v512 : BitVec 32 := Scalar.addi c0_i32_375 v511
  v512.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v701 : BitVec 32 := Scalar.muli v2 c256_i32
  let c0_i32_504 : BitVec 32 := 0#32
  ![v701.toNat, 0]
def k0_off3 (d0 : Dev nD) (c1_i32_381 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_380 : BitVec 32 := 16#32
  let v521 : BitVec 32 := Scalar.addi v2 c16_i32_380
  let v522 : BitVec 32 := Scalar.subi v521 c1_i32_381
  let c16_i32_382 : BitVec 32 := 16#32
  let c0_i32_383 : BitVec 32 := 0#32
  let v523 : BitVec 1 := Scalar.cmpi .eq c16_i32_382 c0_i32_383
  let c1_i32_384 : BitVec 32 := 1#32
  let v524 : BitVec 32 := Scalar.select v523 c1_i32_384 c16_i32_382
  let v525 : BitVec 32 := Scalar.remsi v522 v524
  let c0_i32_386 : BitVec 32 := 0#32
  let v527 : BitVec 1 := Scalar.cmpi .slt v525 c0_i32_386
  let c0_i32_387 : BitVec 32 := 0#32
  let v528 : BitVec 1 := Scalar.cmpi .slt v524 c0_i32_387
  let v529 : BitVec 1 := Scalar.xori v527 v528
  let c0_i32_385 : BitVec 32 := 0#32
  let v526 : BitVec 1 := Scalar.cmpi .ne v525 c0_i32_385
  let v530 : BitVec 1 := Scalar.andi v529 v526
  let v531 : BitVec 32 := Scalar.addi v525 v524
  let v532 : BitVec 32 := Scalar.select v530 v531 v525
  let c256_i32_505 : BitVec 32 := 256#32
  let v707 : BitVec 32 := Scalar.muli v532 c256_i32_505
  let c0_i32_510 : BitVec 32 := 0#32
  ![v707.toNat, 0]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v718 : Index := Scalar.indexCast v2
  let c0_516 : Index := 0#32
  let c0_517 : Index := 0#32
  ![v718.toNat, 0, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Uniform.lean ====
/-
# `Uniform`: the kernel body as one short program of loops

The printed body is the kernel with every Python loop unrolled. Here the same sequence of effects is written with the
loops back in place: fifteen barrier signals, one barrier wait, the staging store, fifteen sends, the first two weight
copies and the first product, fourteen middle products (start the next weight copy, wait for this one, wait for the
block of this hop, accumulate), the last product, fifteen send waits, and the scaling store. `body_eq` says the two are
the same program. A hop is named `k : Fin 15`; its distance around the mesh is `k + 1`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Hops
open Cert.KernelIdeal Cert.KernelIdeal.Gen

open Idealize.ShloMosaic
open Idealize.ShloMosaic.TcCoe
open Idealize.SL Idealize.SL.Sem

variable {F : FTy → Type} [FloatOps F]

/-! ## Buffers and semaphores -/

abbrev xM : Memref sig .tc .vmem S4096x256 .f32 := Memref.whole cc0_stg0_0
abbrev wM : Memref sig .tc .hbm S4096x8192 .f32 := Memref.whole main_arg1
abbrev aM : Memref sig .tc .smem S1 .f32 := Memref.whole cc0_stg1_0
abbrev bM : Memref sig .tc .smem S1 .f32 := Memref.whole cc0_stg2_0
abbrev oM : Memref sig .tc .vmem S256x8192 .f32 := Memref.whole cc0_stg3_0
abbrev gM : Memref sig .tc .vmem S16x256x256 .fp8e5m2 := Memref.whole cc0_scratch0
abbrev rM : Memref sig .tc .vmem S16x256x256 .fp8e5m2 := Memref.whole cc0_scratch1
abbrev vM : Memref sig .tc .vmem S2x256x8192 .f32 := Memref.whole cc0_scratch2

abbrev barS : Sem sig := (SemArray.scalar (sig.barrier 0 rfl) : Sems sig S_).sem

theorem inb_sem : ∀ d : Fin 16, ∀ a, (![d.val] : Fin 1 → Nat) a + S1.size a ≤ S16.size a := by decide
theorem inb_semW : ∀ s : Fin 2, ∀ a, (![s.val] : Fin 1 → Nat) a + S1.size a ≤ S2.size a := by decide
theorem inb_slot : ∀ d : Fin 16, ∀ a, (![d.val, 0, 0] : Fin 3 → Nat) a + S1x256x256.size a ≤ S16x256x256.size a := by decide
theorem inb_slotW : ∀ s : Fin 2, ∀ a, (![s.val, 0, 0] : Fin 3 → Nat) a + S1x256x8192.size a ≤ S2x256x8192.size a := by decide
theorem words_slot : ∀ d : Fin 16, (Rect.unit (s := S16x256x256) ![d.val, 0, 0] S1x256x256.size (inb_slot d)).WholeWords (EltTy.packing .fp8e5m2) := by decide

/-- The send, receive and weight semaphores, by index. -/
abbrev sendS (d : Fin 16) : DmaSem sig := ((cc0_scratch3.slice (Rect.unit (s := S16) ![d.val] S1.size (inb_sem d))).squeeze S_ squeezes_S1_S_).sem
abbrev recvS (d : Fin 16) : DmaSem sig := ((cc0_scratch4.slice (Rect.unit (s := S16) ![d.val] S1.size (inb_sem d))).squeeze S_ squeezes_S1_S_).sem
abbrev wgtS (s : Fin 2) : DmaSem sig := ((cc0_scratch5.slice (Rect.unit (s := S2) ![s.val] S1.size (inb_semW s))).squeeze S_ squeezes_S1_S_).sem

/-- Slot `d` of the landing buffer, as the sends write it. -/
abbrev rSlot (d : Fin 16) : Memref sig .tc .vmem S256x256 .fp8e5m2 :=
  (rM.slice (Rect.unit (s := S16x256x256) ![d.val, 0, 0] S1x256x256.size (inb_slot d)) (fun _ => rfl)).squeeze S256x256 squeezes_S1x256x256_S256x256
/-- The staged block hop `k` sends, as the kernel computes its place. -/
abbrev gSlot (c : Dev nD) (k : Fin 15) : Memref sig .tc .vmem S256x256 .fp8e5m2 :=
  (gM.slice (Rect.unit (s := S16x256x256) (k0_off1 c (BitVec.ofNat 32 (1 + k.val))) S1x256x256.size (k0_off1_inb c k)) (fun _ => rfl)).squeeze S256x256 squeezes_S1x256x256_S256x256
/-- Slot `s` of the weight buffer. -/
abbrev vSlot (s : Fin 2) : Memref sig .tc .vmem S256x8192 .f32 :=
  (vM.slice (Rect.unit (s := S2x256x8192) ![s.val, 0, 0] S1x256x8192.size (inb_slotW s)) (fun _ => rfl)).squeeze S256x8192 squeezes_S1x256x8192_S256x8192
/-- The weight rows of the first product, and of hop `k`'s. -/
abbrev wOwn (c : Dev nD) : Memref sig .tc .hbm S256x8192 .f32 :=
  wM.slice (Rect.unit (s := S4096x8192) (k0_off2 c) S256x8192.size (k0_off2_inb c)) (fun _ => rfl)
abbrev wHop (c : Dev nD) (k : Fin 15) : Memref sig .tc .hbm S256x8192 .f32 :=
  wM.slice (Rect.unit (s := S4096x8192) (k0_off3 c (BitVec.ofNat 32 (1 + k.val))) S256x8192.size (k0_off3_inb c k)) (fun _ => rfl)

/-- The device hop `k`'s signal and its send are addressed to, as the kernel computes them. -/
abbrev sigDev (c : Dev nD) : Fin 15 → Dev nD :=
  ![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩,
    ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩,
    ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩]
abbrev sendDev (c : Dev nD) : Fin 15 → Dev nD :=
  ![⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩,
    ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩,
    ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩]

/-- Hop `k` as a slot and semaphore index: its distance `k + 1`. -/
def hop (k : Fin 15) : Fin 16 := ⟨1 + k.val, by omega⟩
/-- The weight slot step `d` reads. -/
def par (d : Nat) : Fin 2 := ⟨d % 2, Nat.mod_lt _ (by decide)⟩

/-! ## The pieces of the program -/

abbrev TcProg (F : FTy → Type) : Type → Type 1 := Prog (TpuEff nD τ sig (Elt F) Λ₀ .tc)

/-- The pieces `f` at the entries of a list, in order. -/
def seqL (f : Fin 15 → TcProg F PUnit) : List (Fin 15) → TcProg F PUnit
  | [] => .ret ⟨⟩
  | k :: l => f k >>= fun _ => seqL f l

abbrev wordS (c : Dev nD) (k : Fin 15) : (gSlot c k).view.WordExact :=
  ((Memref.isWhole_whole (sig := sig) (κ := .tc) cc0_scratch0).wordExact_slice rfl _ (k0_off1_wordsfp8e5m2 c k)).reshape _ _
abbrev wordR (d : Fin 16) : (rSlot d).view.WordExact :=
  ((Memref.isWhole_whole (sig := sig) (κ := .tc) cc0_scratch1).wordExact_slice rfl _ (words_slot d)).reshape _ _
abbrev wordV (s : Fin 2) : (vSlot s).view.WordExact := (View.wordExact_bits rfl).reshape _ _

def sigP (c : Dev nD) (k : Fin 15) : TcProg F PUnit := semSignalWord (sigDev c k) barS 1#32
def sendP (c : Dev nD) (k : Fin 15) : TcProg F PUnit :=
  Prog.lift (.enqueueDma (gSlot c k) (.remote (Dev.tc (sendDev c k)) (rSlot (hop k)) (.dma (sendS (hop k)))) (.dma (recvS (hop k)))
    (wordS c k) (wordR (hop k)) ⟨⟨rfl, Or.inl rfl⟩, trivial⟩)
def startP (src : Memref sig .tc .hbm S256x8192 .f32) (s : Fin 2) : TcProg F PUnit :=
  Prog.lift (.enqueueDma src (.here (vSlot s)) (.dma (wgtS s)) (View.wordExact_bits rfl) (wordV s) ⟨Or.inl rfl, trivial⟩)
def waitWP (src : Memref sig .tc .hbm S256x8192 .f32) (s : Fin 2) : TcProg F PUnit :=
  Prog.lift (.waitDma2 (wgtS s) src (vSlot s) (View.wordExact_bits rfl) (wordV s))
def waitRP (c : Dev nD) (k : Fin 15) : TcProg F PUnit :=
  Prog.lift (.waitDma2 (recvS (hop k)) (gSlot c k) (rSlot (hop k)) (wordS c k) (wordR (hop k)))
def waitSP (c : Dev nD) (k : Fin 15) : TcProg F PUnit :=
  Prog.lift (.waitDma2 (sendS (hop k)) (gSlot c k) (gSlot c k) (wordS c k) (wordS c k))

abbrev xRect : Rect S4096x256 := Rect.unit (s := S4096x256) ![0, 0] S4096x256.size inb_S4096x256_S4096x256_0_0
abbrev gRect : Rect S16x256x256 := Rect.unit (s := S16x256x256) ![0, 0, 0] S16x256x256.size inb_S16x256x256_S16x256x256_0_0_0
abbrev oRect : Rect S256x8192 := Rect.unit (s := S256x8192) ![0, 0] S256x8192.size inb_S256x8192_S256x8192_0_0
abbrev sRect : Rect S1 := Rect.unit (s := S1) ![0] S1.size inb_S1_S1_0

/-- The received (or own) block times the weight rows in hand. -/
def prod (a : Vec F S1x256x256 .fp8e5m2) (w : Vec F S1x256x8192 .f32) : FVec F S256x8192 .f32 := k0_pay3 a w
/-- An accumulator and the next product. -/
def accum (a : Vec F S1x256x256 .fp8e5m2) (w : Vec F S1x256x8192 .f32) (o : Vec F S256x8192 .f32) : FVec F S256x8192 .f32 := k0_pay4 a w o

abbrev loadO : TcProg F (Vec F S256x8192 .f32) := Prog.lift (.load oM oRect.toLoadRect (View.loadsAt_vmem h_S256x8192))
abbrev storeO (v : FVec F S256x8192 .f32) : TcProg F PUnit :=
  Prog.lift (.store oM oRect v Finset.univ (View.stores_vmem_bits_univ h_S256x8192 rfl) (.inl rfl))

def stageP : TcProg F PUnit := do
  let x ← Prog.lift (.load xM xRect.toLoadRect (View.loadsAt_vmem h_S4096x256))
  let _ ← Prog.lift (.load gM gRect.toLoadRect (View.loadsAt_vmem h_S16x256x256))
  Prog.lift (.store gM gRect (k0_pay2 x) Finset.univ (View.stores_vmem h_S16x256x256 ((Memref.isWhole_whole (sig := sig) (κ := .tc) cc0_scratch0).storeExact_slice rfl _ packedfp8e5m2_S16x256x256_S16x256x256_0_0_0) (fun _ => rfl)) (.inl rfl))

/-- The first product: the device's own staged block. -/
def firstP (c : Dev nD) : TcProg F PUnit := do
  let a ← Prog.lift (.load gM (Rect.unit (s := S16x256x256) (k0_off4 c) S1x256x256.size (k0_off4_inb c)).toLoadRect (View.loadsAt_vmem h_S1x256x256))
  let w ← Prog.lift (.load vM (Rect.unit (s := S2x256x8192) ![0, 0, 0] S1x256x8192.size (inb_slotW 0)).toLoadRect (View.loadsAt_vmem h_S1x256x8192))
  let _ ← loadO
  storeO (prod a w)

/-- Hop `k`'s product added to the accumulator. -/
def accP (k : Fin 15) : TcProg F PUnit := do
  let a ← Prog.lift (.load rM (Rect.unit (s := S16x256x256) ![(hop k).val, 0, 0] S1x256x256.size (inb_slot (hop k))).toLoadRect (View.loadsAt_vmem h_S1x256x256))
  let w ← Prog.lift (.load vM (Rect.unit (s := S2x256x8192) ![(par (1 + k.val)).val, 0, 0] S1x256x8192.size (inb_slotW (par (1 + k.val)))).toLoadRect (View.loadsAt_vmem h_S1x256x8192))
  let o ← loadO
  let _ ← loadO
  storeO (accum a w o)

/-- A middle hop: the next hop's weight rows on their way, then this hop's product. -/
def midP (c : Dev nD) (k : Fin 15) : TcProg F PUnit := do
  startP (wHop c (k + 1)) (par (2 + k.val))
  waitWP (wHop c k) (par (1 + k.val))
  waitRP c k
  accP k

def scaleP : TcProg F PUnit := do
  let a ← smemLoad aM sRect numel1_S1 rfl
  let b ← smemLoad bM sRect numel1_S1 rfl
  let o ← loadO
  let _ ← loadO
  storeO (k0_pay1 a b o)

abbrev all15 : List (Fin 15) := [0, 1, 2, 3, 4, 5, 6, 7, 8, 9, 10, 11, 12, 13, 14]
abbrev all14 : List (Fin 15) := [0, 1, 2, 3, 4, 5, 6, 7, 8, 9, 10, 11, 12, 13]

/-- The body after it has read its device id. -/
def loops (c : Dev nD) : TcProg F PUnit := do
  seqL (sigP c) all15
  semWaitWord barS 15#32
  stageP
  seqL (sendP c) all15
  startP (wOwn c) 0
  startP (wHop c 0) 1
  waitWP (wOwn c) 0
  firstP c
  seqL (midP c) all14
  waitWP (wHop c 14) 1
  waitRP c 14
  accP 14
  seqL (waitSP c) all15
  scaleP

set_option maxRecDepth 100000 in
/-- The printed body is the program of loops. -/
theorem body_eq :
    (cc0_body (F := F) xM (Memref.isWhole_whole _) wM (Memref.isWhole_whole _) aM (Memref.isWhole_whole _) bM (Memref.isWhole_whole _)
      oM (Memref.isWhole_whole _) gM (Memref.isWhole_whole _) rM (Memref.isWhole_whole _) vM (Memref.isWhole_whole _)
      cc0_scratch3 cc0_scratch4 cc0_scratch5)
    = (Prog.lift .deviceId >>= fun c => loops c) := by
  chain_rfl

end Cert.Hops

end
-- ==== Proof.Slots.lean ====
/-
# `Slots`: which device and which part of a buffer each hop touches

The devices around the mesh (`peer c k`, `k + 1` places after `c`; `back c k`, `k + 1` before it), the sixteen slots of
the staging and landing buffers, the sixteen row blocks of the weight array and the two halves of the weight buffer, each
a set of indices; and that the places the kernel computes are those.
-/
module

public import proofs.«01_k».proof.Proof.Uniform

@[expose] public section

noncomputable section

namespace Cert.Hops
open Cert.KernelIdeal Cert.KernelIdeal.Gen

open Idealize.ShloMosaic
open Idealize.ShloMosaic.TcCoe
open Idealize.SL Idealize.SL.Sem

/-! ## Around the mesh -/

set_option backward.proofsInPublic true in
def peer (c : Dev nD) (k : Fin 15) : Dev nD := ⟨(c.val + (1 + k.val)) % 16, Nat.mod_lt _ (by decide)⟩
set_option backward.proofsInPublic true in
def back (c : Dev nD) (k : Fin 15) : Dev nD := ⟨(c.val + (15 - k.val)) % 16, Nat.mod_lt _ (by decide)⟩

theorem peer_back (c : Dev nD) (k : Fin 15) : peer (back c k) k = c := by revert c k; decide +kernel
theorem back_peer (c : Dev nD) (k : Fin 15) : back (peer c k) k = c := by revert c k; decide +kernel
theorem peer_rev (c : Dev nD) (k : Fin 15) : peer (peer c k) k.rev = c := by revert c k; decide +kernel
theorem peer_ne (c : Dev nD) (k : Fin 15) : peer c k ≠ c := by revert c k; decide +kernel
theorem peer_inj (c : Dev nD) {k k' : Fin 15} (h : peer c k = peer c k') : k = k' := by revert c k k'; decide +kernel

theorem sigDev_eq (c : Dev nD) (k : Fin 15) : sigDev c k = peer c k := by revert c k; decide +kernel
theorem sendDev_eq (c : Dev nD) (k : Fin 15) : sendDev c k = peer c k := by revert c k; decide +kernel

/-- The devices turned by a hop. -/
def turn (k : Fin 15) : Dev nD ≃ Dev nD := ⟨(peer · k), (back · k), fun c => back_peer c k, fun c => peer_back c k⟩

theorem off1_eq (c : Dev nD) (k : Fin 15) : k0_off1 c (BitVec.ofNat 32 (1 + k.val)) = ![(peer c k).val, 0, 0] := by revert c k; decide +kernel
theorem off2_eq (c : Dev nD) : k0_off2 c = ![256 * c.val, 0] := k0_off2_eq c
theorem off3_eq (c : Dev nD) (k : Fin 15) : k0_off3 c (BitVec.ofNat 32 (1 + k.val)) = ![256 * (back c k).val, 0] := by revert c k; decide +kernel
theorem off4_eq (c : Dev nD) : k0_off4 c = ![c.val, 0, 0] := k0_off4_eq c

/-! ## The parts of the buffers -/

/-- Slot `t` of a buffer of sixteen blocks; -/
def slotSet (t : Fin 16) : Finset S16x256x256.Idx := Finset.univ.filter fun i => (i 0).val = t.val
/-- rows `256 t … 256 t + 255` of the weight array; -/
def rowSet (t : Fin 16) : Finset S4096x8192.Idx := Finset.univ.filter fun i => (i 0).val / 256 = t.val
/-- half `s` of the weight buffer. -/
def halfSet (s : Fin 2) : Finset S2x256x8192.Idx := Finset.univ.filter fun i => (i 0).val = s.val

theorem mem_slotSet {t : Fin 16} {i : S16x256x256.Idx} : i ∈ slotSet t ↔ (i 0).val = t.val := by simp [slotSet]
theorem mem_rowSet {t : Fin 16} {i : S4096x8192.Idx} : i ∈ rowSet t ↔ (i 0).val / 256 = t.val := by simp [rowSet]
theorem mem_halfSet {s : Fin 2} {i : S2x256x8192.Idx} : i ∈ halfSet s ↔ (i 0).val = s.val := by simp [halfSet]

theorem slotSet_disjoint (a b : Fin 16) (h : a ≠ b) : Disjoint (slotSet a) (slotSet b) :=
  Finset.disjoint_left.mpr fun i ha hb => h (Fin.ext ((mem_slotSet.mp ha).symm.trans (mem_slotSet.mp hb)))
theorem rowSet_disjoint (a b : Fin 16) (h : a ≠ b) : Disjoint (rowSet a) (rowSet b) :=
  Finset.disjoint_left.mpr fun i ha hb => h (Fin.ext ((mem_rowSet.mp ha).symm.trans (mem_rowSet.mp hb)))
theorem halfSet_disjoint (a b : Fin 2) (h : a ≠ b) : Disjoint (halfSet a) (halfSet b) :=
  Finset.disjoint_left.mpr fun i ha hb => h (Fin.ext ((mem_halfSet.mp ha).symm.trans (mem_halfSet.mp hb)))

theorem slotSet_cover : Finset.univ.biUnion slotSet = Finset.univ :=
  Finset.eq_univ_iff_forall.mpr fun i => Finset.mem_biUnion.mpr ⟨⟨(i 0).val, (i 0).isLt⟩, Finset.mem_univ _, mem_slotSet.mpr rfl⟩
theorem rowSet_cover : Finset.univ.biUnion rowSet = Finset.univ :=
  Finset.eq_univ_iff_forall.mpr fun i => Finset.mem_biUnion.mpr
    ⟨⟨(i 0).val / 256, by have : (i 0).val < 4096 := (i 0).isLt; omega⟩, Finset.mem_univ _, mem_rowSet.mpr rfl⟩
theorem halfSet_cover : Finset.univ.biUnion halfSet = Finset.univ :=
  Finset.eq_univ_iff_forall.mpr fun i => Finset.mem_biUnion.mpr ⟨⟨(i 0).val, (i 0).isLt⟩, Finset.mem_univ _, mem_halfSet.mpr rfl⟩

/-- A unit rectangle one block thick is a slot. -/
theorem rect_slot (t : Fin 16) {off : Fin 3 → Nat} (h : off = ![t.val, 0, 0]) (inb) :
    (Rect.unit (s := S16x256x256) off S1x256x256.size inb).set = slotSet t := by
  subst h
  ext i
  rw [Rect.mem_set_unit, mem_slotSet]
  constructor
  · intro h; have := h 0; simp at this; omega
  · intro h a
    have h1 : (i 1).val < 256 := (i 1).isLt
    have h2 : (i 2).val < 256 := (i 2).isLt
    fin_cases a <;> simp <;> omega
theorem rect_row (t : Fin 16) {off : Fin 2 → Nat} (h : off = ![256 * t.val, 0]) (inb) :
    (Rect.unit (s := S4096x8192) off S256x8192.size inb).set = rowSet t := by
  subst h
  ext i
  rw [Rect.mem_set_unit, mem_rowSet]
  constructor
  · intro h; have := h 0; simp at this; omega
  · intro h a
    have h1 : (i 1).val < 8192 := (i 1).isLt
    fin_cases a <;> simp <;> omega
theorem rect_half (s : Fin 2) {off : Fin 3 → Nat} (h : off = ![s.val, 0, 0]) (inb) :
    (Rect.unit (s := S2x256x8192) off S1x256x8192.size inb).set = halfSet s := by
  subst h
  ext i
  rw [Rect.mem_set_unit, mem_halfSet]
  constructor
  · intro h; have := h 0; simp at this; omega
  · intro h a
    have h1 : (i 1).val < 256 := (i 1).isLt
    have h2 : (i 2).val < 8192 := (i 2).isLt
    fin_cases a <;> simp <;> omega

theorem set_gSlot (c : Dev nD) (k : Fin 15) : (gSlot c k).view.set = slotSet (peer c k) :=
  (Memref.set_view_squeeze _ _).trans ((View.set_slice_whole _ _).trans (rect_slot _ (off1_eq c k) _))
theorem set_rSlot (d : Fin 16) : (rSlot d).view.set = slotSet d :=
  (Memref.set_view_squeeze _ _).trans ((View.set_slice_whole _ _).trans (rect_slot _ rfl _))
theorem set_vSlot (s : Fin 2) : (vSlot s).view.set = halfSet s :=
  (Memref.set_view_squeeze _ _).trans ((View.set_slice_whole _ _).trans (rect_half _ rfl _))
theorem set_wHop (c : Dev nD) (k : Fin 15) : (wHop c k).view.set = rowSet (back c k) :=
  (View.set_slice_whole _ _).trans (rect_row _ (off3_eq c k) _)
theorem set_wOwn (c : Dev nD) : (wOwn c).view.set = rowSet c :=
  (View.set_slice_whole _ _).trans (rect_row _ (off2_eq c) _)

/-- The credit one block's transfer brings its semaphores. -/
abbrev N : ℕ := (rSlot 0).view.dmaCredit
theorem N_pos : 0 < N := View.dmaCredit_pos _ (by decide)
theorem credit_rSlot (d : Fin 16) : (rSlot d).view.dmaCredit = N := rfl
theorem credit_gSlot (c : Dev nD) (k : Fin 15) : (gSlot c k).view.dmaCredit = N := rfl

/-! ## Which semaphore is which -/

/-- What a semaphore is for: the entry barrier, hop `k`'s send, hop `k`'s receive, or none of these. -/
inductive Role
  | bar | send (k : Fin 15) | recv (k : Fin 15) | other
deriving DecidableEq

def role : SemLoc sig → Role
  | .reg s => if s = barS then .bar else .other
  | .dma s => if h : 5 ≤ s.val ∧ s.val < 20 then .send ⟨s.val - 5, by omega⟩
      else if h : 21 ≤ s.val ∧ s.val < 36 then .recv ⟨s.val - 21, by omega⟩ else .other

theorem role_bar : role (.reg barS) = .bar := by decide
theorem role_send (k : Fin 15) : role (.dma (sendS (hop k))) = .send k := by revert k; decide
theorem role_recv (k : Fin 15) : role (.dma (recvS (hop k))) = .recv k := by revert k; decide
theorem role_wgt (s : Fin 2) : role (.dma (wgtS s)) = .other := by revert s; decide

end Cert.Hops

end
-- ==== Proof.Sched.lean ====
/-
# `Sched`: who pays whom, and what each payment hands over

The protocol, stated in the rounds library. Every device has thirty-one cells: its barrier, and for each of the fifteen
hops a send and a receive semaphore; each is used in one round.

* The barrier of device `t` has fifteen duties of one unit, named by the hop `e` with which `t` will send to the payer,
  device `peer t e`. The payer hands over its own landing slot for that hop, and the fact that its receive cell stands at
  the start.
* The send cell of hop `k` has one duty, of one block's credit, handing back the staged block.
* The receive cell of hop `k` has one duty, of one block's credit, handing over the landing slot, read as the block the
  sender staged.

Then what a device owes at launch, and the levels that order its waits: barriers below receives.
-/
module

public import proofs.«01_k».proof.Proof.Slots
public import Idealize.ShloMosaic.Lib.Transfers

@[expose] public section

noncomputable section

namespace Cert.Hops
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the window pipeline's cells, the hops' cells, the local copies' counters -/

abbrev UB : Type := URounds (GSem nD τ sig) (Fin 15)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The hops' cells within the algebra: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

abbrev barCell (c : Dev nD) : GSem nD τ sig := ((c : Thread nD τ), .reg barS)
abbrev sendCell (c : Dev nD) (k : Fin 15) : GSem nD τ sig := ((c : Thread nD τ), .dma (sendS (hop k)))
abbrev recvCell (c : Dev nD) (k : Fin 15) : GSem nD τ sig := ((c : Thread nD τ), .dma (recvS (hop k)))

/-- A device's thirty-one cells: its barrier, its sends, its receives. -/
abbrev CIx : Type := Unit ⊕ (Fin 15 ⊕ Fin 15)
def csem : CIx → SemLoc sig
  | .inl _ => .reg barS
  | .inr (.inl k) => .dma (sendS (hop k))
  | .inr (.inr k) => .dma (recvS (hop k))
def kcell (p : Dev nD × CIx) : GSem nD τ sig := ((p.1 : Thread nD τ), csem p.2)

/-! ## Contents -/

/-- Device `c`'s block of columns of `x`, as its window stages it; -/
def xstg (c : Dev nD) : (cc0_stg0_0 : Ref sig .tc).ty.Contents (Elt F) :=
  (win0_0.blk (0 : Fin 1)).view.read (Elt F) ((s₀ m ρ).mem ((c : Thread nD τ).loc main_arg0))
/-- cast and cut in sixteen blocks, as it stages them for sending; -/
def gC (c : Dev nD) : S16x256x256.Idx → Elt F .fp8e5m2 := k0_pay2 (xstg m ρ c)
/-- the block hop `k` brings device `c`: the one staged for it by the device `k + 1` before it. -/
def inB (c : Dev nD) (k : Fin 15) : S256x256.Idx → Elt F .fp8e5m2 :=
  (gSlot (back c k) k).view.read (Elt F) (gC m ρ (back c k))

/-- Slot `t` of device `c`'s staging buffer, holding what it staged; -/
def gPts (c : Dev nD) (t : Fin 16) : sProp 𝕄 :=
  ((c : Thread nD τ).loc cc0_scratch0) ↦[slotSet t]{fullShare} gC m ρ c
/-- slot `t` of its landing buffer, at contents `f`. -/
def rPts (c : Dev nD) (t : Fin 16) (f : Buf (Elt F) ((c : Thread nD τ).loc cc0_scratch1)) : sProp 𝕄 :=
  ((c : Thread nD τ).loc cc0_scratch1) ↦[slotSet t]{fullShare} f

omit [FloatOps F] in
instance rPts_storable (c : Dev nD) (t f) : BI.Storable (upEmb : UEmb _ 𝕄) (rPts (F := F) c t f) := by unfold rPts; infer_instance
instance gPts_storable (c : Dev nD) (t) : BI.Storable (upEmb : UEmb _ 𝕄) (gPts (F := F) m ρ c t) := by unfold gPts; infer_instance

/-! ## The schedule -/

/-- Paid to the barrier of `t` under duty `e`, by `peer t e`. -/
def barPay (t : Dev nD) (e : Fin 15) : sProp 𝕄 :=
  iprop((∃ f, rPts (peer t e) (hop e) f) ∗ reached ER (recvCell (peer t e) e) 0)
/-- Paid to the receive cell of hop `k` of device `c`. -/
def recvPay (c : Dev nD) (k : Fin 15) : sProp 𝕄 :=
  iprop(∃ f, ⌜(rSlot (hop k)).view.read (Elt F) f = inB m ρ c k⌝ ∗ rPts c (hop k) f)

def ringRd : Rounds.Schedule (GSem nD τ sig) (Fin 15) 𝕄 where
  duties g r := if r = 0 ∧ g.1.2 = .tc then
      match role g.2 with
      | .bar => Finset.univ
      | .send _ => {0}
      | .recv _ => {0}
      | .other => ∅
    else ∅
  unitless _ := False
  amount g _ _ := if role g.2 = .bar then 1 else N
  payload g _ d := match role g.2 with
    | .bar => barPay g.1.1 d
    | .send k => gPts m ρ g.1.1 (peer g.1.1 k)
    | .recv k => recvPay m ρ g.1.1 k
    | .other => iprop(emp)
  amount_pos g _ _ _ := by
    by_cases h : role g.2 = .bar
    · rw [if_pos h]; exact Nat.one_pos
    · rw [if_neg h]; exact N_pos

instance ringRd_payload_storable (g : GSem nD τ sig) (r : ℕ) (d : Fin 15) :
    BI.Storable (upEmb : UEmb _ 𝕄) ((ringRd (F := F) m ρ).payload g r d) := by
  show BI.Storable upEmb (match role g.2 with
    | .bar => barPay g.1.1 d
    | .send k => gPts m ρ g.1.1 (peer g.1.1 k)
    | .recv k => recvPay m ρ g.1.1 k
    | .other => iprop(emp))
  unfold barPay recvPay
  split <;> infer_instance

section Sched
variable (c : Dev nD) (k : Fin 15)

theorem duties_bar : (ringRd (F := F) m ρ).duties (barCell c) 0 = Finset.univ := by
  dsimp only [ringRd]; rw [if_pos ⟨rfl, rfl⟩, role_bar]
theorem duties_send : (ringRd (F := F) m ρ).duties (sendCell c k) 0 = {0} := by
  dsimp only [ringRd]; rw [if_pos ⟨rfl, rfl⟩, role_send]
theorem duties_recv : (ringRd (F := F) m ρ).duties (recvCell c k) 0 = {0} := by
  dsimp only [ringRd]; rw [if_pos ⟨rfl, rfl⟩, role_recv]
theorem duties_later (g : GSem nD τ sig) : ∀ r, 1 ≤ r → (ringRd (F := F) m ρ).duties g r = ∅ :=
  fun r hr => by dsimp only [ringRd]; rw [if_neg fun h => by omega]

theorem amount_bar (d : Fin 15) : (ringRd (F := F) m ρ).amount (barCell c) 0 d = 1 := by
  dsimp only [ringRd]; exact if_pos role_bar
theorem amount_send (d : Fin 15) : (ringRd (F := F) m ρ).amount (sendCell c k) 0 d = N := by
  dsimp only [ringRd]; rw [role_send]; exact if_neg (by intro h; cases h)
theorem amount_recv (d : Fin 15) : (ringRd (F := F) m ρ).amount (recvCell c k) 0 d = N := by
  dsimp only [ringRd]; rw [role_recv]; exact if_neg (by intro h; cases h)

theorem expect_bar : (ringRd (F := F) m ρ).expect (barCell c) 0 = 15 := by
  unfold Schedule.expect Schedule.amountOf
  rw [duties_bar, Finset.sum_congr rfl fun d _ => amount_bar m ρ c d, Finset.sum_const, Finset.card_univ, Fintype.card_fin, smul_eq_mul]
theorem expect_send : (ringRd (F := F) m ρ).expect (sendCell c k) 0 = N := by
  unfold Schedule.expect Schedule.amountOf; rw [duties_send, Finset.sum_singleton, amount_send]
theorem expect_recv : (ringRd (F := F) m ρ).expect (recvCell c k) 0 = N := by
  unfold Schedule.expect Schedule.amountOf; rw [duties_recv, Finset.sum_singleton, amount_recv]

theorem payload_bar (d : Fin 15) : (ringRd (F := F) m ρ).payload (barCell c) 0 d = barPay c d := by
  dsimp only [ringRd]; rw [role_bar]
theorem payload_send (d : Fin 15) : (ringRd (F := F) m ρ).payload (sendCell c k) 0 d = gPts m ρ c (peer c k) := by
  dsimp only [ringRd]; rw [role_send]
theorem payload_recv (d : Fin 15) : (ringRd (F := F) m ρ).payload (recvCell c k) 0 d = recvPay m ρ c k := by
  dsimp only [ringRd]; rw [role_recv]

/-- The whole of a round, nothing taken before. -/
theorem rest_bar : bigSep ((ringRd (F := F) m ρ).duties (barCell c) 0 \ ∅) (fun d => (ringRd (F := F) m ρ).payload (barCell c) 0 d)
    = bigSep Finset.univ fun e => barPay c e := by
  rw [Finset.sdiff_empty, duties_bar, show (fun d => (ringRd (F := F) m ρ).payload (barCell c) 0 d) = fun e => barPay c e from
    funext fun d => payload_bar m ρ c d]
theorem rest_send : bigSep ((ringRd (F := F) m ρ).duties (sendCell c k) 0 \ ∅) (fun d => (ringRd (F := F) m ρ).payload (sendCell c k) 0 d)
    = gPts m ρ c (peer c k) := by
  rw [Finset.sdiff_empty, duties_send, bigSep_singleton, payload_send]
theorem rest_recv : bigSep ((ringRd (F := F) m ρ).duties (recvCell c k) 0 \ ∅) (fun d => (ringRd (F := F) m ρ).payload (recvCell c k) 0 d)
    = recvPay m ρ c k := by
  rw [Finset.sdiff_empty, duties_recv, bigSep_singleton, payload_recv]

end Sched

/-! ## What each core owes; the levels -/

/-- The hops from the `s`-th on. -/
def hopsFrom (s : ℕ) : Finset (Fin 15) := Finset.univ.filter fun k => s ≤ k.val
theorem hopsFrom_zero : hopsFrom 0 = Finset.univ := by decide
theorem hopsFrom_end : hopsFrom 15 = ∅ := by decide
theorem hopsFrom_step (k : Fin 15) : hopsFrom k.val = insert k (hopsFrom (k.val + 1)) := by revert k; decide
theorem not_mem_hopsFrom (k : Fin 15) : k ∉ hopsFrom (k.val + 1) := by revert k; decide

/-- The barrier units owed when the first `s` signals are out, and the blocks owed when the first `s` sends are. -/
def owedSig (c : Dev nD) (s : ℕ) : CellTallies nD τ sig Unit := ∑ k ∈ hopsFrom s, tallyAt (barCell (peer c k)) () 1
def owedSend (c : Dev nD) (s : ℕ) : CellTallies nD τ sig Unit := ∑ k ∈ hopsFrom s, tallyAt (recvCell (peer c k) k) () N

theorem owedSig_step (c : Dev nD) (k : Fin 15) :
    owedSig c k.val = owedSig c (k.val + 1) + tallyAt (barCell (peer c k)) () 1 := by
  unfold owedSig; rw [hopsFrom_step, Finset.sum_insert (not_mem_hopsFrom k), add_comm]
theorem owedSend_step (c : Dev nD) (k : Fin 15) :
    owedSend c k.val = owedSend c (k.val + 1) + tallyAt (recvCell (peer c k) k) () N := by
  unfold owedSend; rw [hopsFrom_step, Finset.sum_insert (not_mem_hopsFrom k), add_comm]
theorem owedSig_end (c : Dev nD) : owedSig c 15 = 0 := by unfold owedSig; rw [hopsFrom_end, Finset.sum_empty]
theorem owedSend_end (c : Dev nD) : owedSend c 15 = 0 := by unfold owedSend; rw [hopsFrom_end, Finset.sum_empty]

/-- What a device owes at launch. -/
def O₀ (c : Dev nD) : CellTallies nD τ sig Unit := owedSig c 0 + owedSend c 0

def L (g : GSem nD τ sig) : Finset Unit := if g.1.2 = .tc then {()} else ∅
/-- Barrier cells at 1, receive cells at 2, every other at 0. -/
def lv (g : GSem nD τ sig) (_ : Unit) : ℕ := match role g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl

/-- A sum of tallies is positive only at one of its cells. -/
theorem sum_tally_pos {s : Finset (Fin 15)} {cell : Fin 15 → GSem nD τ sig} {n : ℕ} {g : GSem nD τ sig} {u : Unit}
    (h : 0 < (∑ k ∈ s, tallyAt (cell k) () n : CellTallies nD τ sig Unit) g u) : ∃ k, g = cell k := by
  by_contra hn
  rw [not_exists] at hn
  rw [Finset.sum_apply, Finsupp.finset_sum_apply, Finset.sum_eq_zero] at h
  · exact Nat.lt_irrefl 0 h
  · intro k _
    rw [tallyAt_apply, if_neg fun h' => hn k h'.1]

theorem owedSend_pos {c : Dev nD} {s : ℕ} {g : GSem nD τ sig} {u : Unit} (h : 0 < owedSend c s g u) : ∃ k, g = recvCell (peer c k) k :=
  sum_tally_pos h
theorem O₀_pos {c : Dev nD} {g : GSem nD τ sig} {u : Unit} (h : 0 < O₀ c g u) :
    (∃ k, g = barCell (peer c k)) ∨ ∃ k, g = recvCell (peer c k) k := by
  unfold O₀ at h
  rw [Pi.add_apply, Finsupp.add_apply] at h
  rcases Nat.eq_zero_or_pos (owedSig c 0 g u) with h0 | h0
  · rw [h0, zero_add] at h; exact .inr (owedSend_pos h)
  · exact .inl (sum_tally_pos h0)

theorem lv_bar (c : Dev nD) (u : Unit) : lv (barCell c) u = 1 := by unfold lv; rw [role_bar]
theorem lv_recv (c : Dev nD) (k : Fin 15) (u : Unit) : lv (recvCell c k) u = 2 := by unfold lv; rw [role_recv]

/-- A wait on a semaphore of no role stands below everything owed at launch. -/
theorem mayWait_stage (c : Dev nD) (q : DmaSem sig) (hq : role (.dma q) = .other) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp]; unfold lv; rw [hq])
      (fun g u hg => by
        rcases O₀_pos hg with ⟨k, rfl⟩ | ⟨k, rfl⟩
        · rw [lv_bar]; decide
        · rw [lv_recv]; decide)
  · rw [MayWait_zero]; iintro -; iempintro

/-- At its barrier wait a device owes the fifteen receive credits only, each above its barrier cell. -/
theorem mayWait_bar (c : Dev nD) (s : ℕ) :
    (levAts L lv : sProp 𝕄) ⊢ MayWait (c : Thread nD τ) (.reg barS) () (owedSend c s) :=
  MayOwe.of_cut (L := L) (lev := lv) 1 (fun p hp => by rw [Finset.mem_singleton.mp hp, L_tc]; exact Finset.mem_singleton_self _)
    (fun g u hg => by obtain ⟨k, rfl⟩ := owedSend_pos hg; exact Finset.mem_singleton_self _)
    (fun p hp => by rw [Finset.mem_singleton.mp hp]; exact le_of_eq (lv_bar c ()))
    (fun g u hg => by obtain ⟨k, rfl⟩ := owedSend_pos hg; rw [lv_recv]; decide)

end Cert.Hops

end
-- ==== Proof.Steps.lean ====
/-
# `Steps`: what each piece of the kernel's program needs and leaves

One theorem per piece of `Uniform`: the resources it takes, the resources it leaves. A loop of fifteen (or fourteen)
pieces is run by `wp_seqL`: each turn consumes its own share `A k`, leaves its own share `B k`, and passes a common
state from `S k` to `S (k + 1)`.
-/
module

public import proofs.«01_k».proof.Proof.Sched

@[expose] public section

noncomputable section

namespace Cert.Hops
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a piece of device `c`'s body. -/
abbrev WP (c : Dev nD) {α : Type} (p : TcProg F α) (Q : α → sProp 𝕄) : sProp 𝕄 :=
  wp frame (wpE (defs₀ (F := F)) 𝒱₀ (c : Thread nD τ) none) Set.univ p Q

/-! ## A loop -/

omit [FloatOps F] in
theorem bigSep_insert₀ {I : Type} [DecidableEq I] {s : Finset I} {i : I} (hi : i ∉ s) (Φ : I → sProp 𝕄) :
    bigSep (insert i s) Φ = iprop(Φ i ∗ bigSep s Φ) := BI.bigSep_insert hi

theorem wp_seqL (c : Dev nD) (f : Fin 15 → TcProg F PUnit) (A B : Fin 15 → sProp 𝕄) (S : ℕ → sProp 𝕄) (Q : PUnit → sProp 𝕄) :
    ∀ (l : List (Fin 15)) (s : ℕ), l.map Fin.val = List.range' s l.length →
      (∀ k ∈ l, ∀ Q : PUnit → sProp 𝕄, iprop(A k ∗ S k.val) ⊢ iprop(((B k ∗ S (k.val + 1)) -∗ Q ⟨⟩) -∗ WP c (f k) Q)) →
      iprop(bigSep l.toFinset A ∗ S s) ⊢ iprop(((bigSep l.toFinset B ∗ S (s + l.length)) -∗ Q ⟨⟩) -∗ WP c (seqL f l) Q) := by
  intro l
  induction l with
  | nil =>
    intro s _ _
    unfold seqL WP
    rw [List.toFinset_nil, BI.bigSep_empty, BI.bigSep_empty, wp_ret]
    iintro ⟨-, HS⟩ HQ
    imodintro
    iapply HQ
    isplitr; · iempintro
    iexact HS
  | cons k l ih =>
    intro s hl h
    rw [List.map_cons, List.length_cons, List.range'_succ] at hl
    obtain ⟨hk, hl⟩ := List.cons.inj hl
    have hn : k ∉ l.toFinset := by
      intro hm
      have : k.val ∈ l.map Fin.val := List.mem_map_of_mem (List.mem_toFinset.mp hm)
      rw [hl, List.mem_range'_1] at this
      omega
    unfold seqL WP
    rw [List.toFinset_cons, bigSep_insert₀ hn, bigSep_insert₀ hn, wp_bind]
    iintro ⟨⟨HA, HAs⟩, HS⟩ HQ
    iapply (h k List.mem_cons_self _) $$ [HA HS]
    · isplitl [HA]; · iexact HA
      rw [hk]; iexact HS
    iintro ⟨HB, HS⟩
    iapply (ih (s + 1) hl (fun k' hk' => h k' (List.mem_cons_of_mem _ hk'))) $$ [HAs HS]
    · isplitl [HAs]; · iexact HAs
      rw [hk]; iexact HS
    iintro ⟨HBs, HS⟩
    iapply HQ
    isplitl [HB HBs]
    · isplitl [HB] <;> iassumption
    rw [List.length_cons, show s + (l.length + 1) = s + 1 + l.length by omega]
    iexact HS

/-! ## What every step may use -/

/-- Every cell's invariant, that every cell has been at its first round, and the levels. -/
def Ctx (K : Dev nD × CIx → ℕ) : sProp 𝕄 :=
  iprop((bigSep Finset.univ fun p => cellInv ER (ringRd m ρ) (K p) (kcell p)) ∗ (bigSep Finset.univ fun p => reached ER (kcell p) 0) ∗ levAts L lv)

instance Ctx_persistent (K : Dev nD × CIx → ℕ) : BI.Persistent (Ctx m ρ K) := by unfold Ctx; infer_instance

/-- A device owing `O`, whatever it has waited on. -/
def owed (c : Dev nD) (O : CellTallies nD τ sig Unit) : sProp 𝕄 := iprop(∃ W, owes (c : Thread nD τ) O W)

section
variable (K : Dev nD × CIx → ℕ) (c : Dev nD) (k : Fin 15)

theorem ctx_inv (p : Dev nD × CIx) : Ctx m ρ K ⊢ cellInv ER (ringRd m ρ) (K p) (kcell p) := by
  unfold Ctx
  iintro ⟨H, -, -⟩
  iapply (show (bigSep Finset.univ fun p => cellInv ER (ringRd m ρ) (K p) (kcell p)) ⊢ cellInv ER (ringRd m ρ) (K p) (kcell p) from
    BI.bigSep_elim (Finset.mem_univ p)) $$ H
theorem ctx_reached (p : Dev nD × CIx) : Ctx m ρ K ⊢ reached ER (kcell p) 0 := by
  unfold Ctx
  iintro ⟨-, H, -⟩
  iapply (show (bigSep Finset.univ fun p => (reached ER (kcell p) 0 : sProp 𝕄)) ⊢ reached ER (kcell p) 0 from
    BI.bigSep_elim (Finset.mem_univ p)) $$ H

/-- At its barrier wait a device may wait: it owes only receive credits. -/
theorem ctx_wait : Ctx m ρ K ⊢ (MayWait (c : Thread nD τ) (.reg barS) () (owedSend c 0) : sProp 𝕄) := by
  unfold Ctx
  iintro ⟨-, -, H⟩
  iapply (mayWait_bar c 0); iexact H

theorem inv_bar (c : Dev nD) : Ctx m ρ K ⊢ cellInv ER (ringRd m ρ) (K (c, .inl ())) (barCell c) := ctx_inv m ρ K (c, .inl ())
theorem inv_send (c : Dev nD) (k : Fin 15) : Ctx m ρ K ⊢ cellInv ER (ringRd m ρ) (K (c, .inr (.inl k))) (sendCell c k) := ctx_inv m ρ K (c, .inr (.inl k))
theorem inv_recv (c : Dev nD) (k : Fin 15) : Ctx m ρ K ⊢ cellInv ER (ringRd m ρ) (K (c, .inr (.inr k))) (recvCell c k) := ctx_inv m ρ K (c, .inr (.inr k))
theorem reached_bar (c : Dev nD) : Ctx m ρ K ⊢ reached ER (barCell c) 0 := ctx_reached m ρ K (c, .inl ())
theorem reached_send (c : Dev nD) (k : Fin 15) : Ctx m ρ K ⊢ reached ER (sendCell c k) 0 := ctx_reached m ρ K (c, .inr (.inl k))
theorem reached_recv (c : Dev nD) (k : Fin 15) : Ctx m ρ K ⊢ reached ER (recvCell c k) 0 := ctx_reached m ρ K (c, .inr (.inr k))

/-! ## The barrier -/

/-- What hop `k`'s signal takes: the peer's duty it pays, and the landing slot it hands over. -/
def sigA : sProp 𝕄 := iprop(dutyTok ER (barCell (peer c k)) 0 k.rev ∗ ∃ f, rPts c (hop k.rev) f)
def sigS (s : ℕ) : sProp 𝕄 := iprop(Ctx m ρ K ∗ owed c (owedSig c s + owedSend c 0))

theorem owedSig_peel : owedSig c k.val + owedSend c 0 = (owedSig c (k.val + 1) + owedSend c 0) + tallyAt (barCell (peer c k)) () 1 := by
  rw [owedSig_step, add_right_comm]

theorem sig_step (Q : PUnit → sProp 𝕄) :
    iprop(sigA c k ∗ sigS m ρ K c k.val) ⊢ iprop(((emp ∗ sigS m ρ K c (k.val + 1)) -∗ Q ⟨⟩) -∗ WP c (sigP c k) Q) := by
  unfold sigP semSignalWord sigA sigS owed WP
  rw [sigDev_eq]
  iintro ⟨⟨Ht, %f, Hf⟩, #HC, %W, HO⟩ HQ
  iapply (Rounds.wp_signal 𝒱₀ ER (ringRd m ρ) (c : Thread nD τ) none (dst := (peer c k : Thread nD τ)) (κ := K (peer c k, .inl ()))
      (d := k.rev) (by rw [duties_bar]; exact Finset.mem_univ _) ((amount_bar m ρ (peer c k) k.rev).trans (by decide)) () _ (owedSig_peel c k))
    $$ [HO Ht Hf]
  · isplitr; · iapply (inv_bar m ρ K (peer c k)); iexact HC
    isplitl [HO]; · iexact HO
    isplitl [Ht]; · iexact Ht
    isplitl [Hf]
    · rw [payload_bar]; unfold barPay; rw [peer_rev]
      isplitl [Hf]; · iexists f; iexact Hf
      iapply (reached_recv m ρ K c k.rev); iexact HC
    · iapply (reached_bar m ρ K (peer c k)); iexact HC
  iintro HO
  rw [wp_ret]; imodintro
  iapply HQ
  isplitr; · iempintro
  isplitr; · iexact HC
  iexists W; iexact HO

/-- The barrier wait: every peer's landing slot for this device arrives. -/
theorem bar_step (Q : PUnit → sProp 𝕄) :
    iprop(Ctx m ρ K ∗ owed c (owedSend c 0) ∗ cred (tallyAt (barCell c) () 15) ∗ atPos ER (barCell c) 0 ∅ 0)
      ⊢ iprop(((owed c (owedSend c 0) ∗ semVal (barCell c) 0 ∗ bigSep Finset.univ fun e => barPay c e) -∗ Q ⟨⟩)
        -∗ WP c (semWaitWord barS 15#32) Q) := by
  unfold semWaitWord owed WP
  iintro ⟨#HC, ⟨%W, HO⟩, Hc, Hat⟩ HQ
  iapply (Rounds.wp_wait_rest_token 𝒱₀ ER (ringRd m ρ) (c : Thread nD τ) none (κ := K (c, .inl ()))
      (wpE_semWait_eq 𝒱₀ (c : Thread nD τ) none Set.univ) (Set.mem_univ _) () (O := owedSend c 0) (W := W) (R := 0) (m := 0) (T := ∅)
      (by rw [expect_bar]; decide)) $$ [Hc HO Hat]
  · isplitr; · iapply (inv_bar m ρ K c); iexact HC
    isplitl [Hc]; · iexact Hc
    isplitl [HO]; · iexact HO
    isplitr; · iapply (ctx_wait m ρ K c); iexact HC
    iexact Hat
  iintro ⟨HO, Hat, -, Hpay⟩
  ihave Hp := (Entails.of_eq (rest_bar m ρ c)) $$ Hpay
  imod (Rounds.cell_close ER (ringRd m ρ) (Set.mem_univ (K (c, .inl ()))) (fun h => h) (R := 0 + 1) (duties_later m ρ (barCell c))) $$ [Hat] with Hz
  · isplitr; · iapply (inv_bar m ρ K c); iexact HC
    iexact Hat
  rw [wp_ret]; imodintro
  iapply HQ
  isplitl [HO]; · iexists _; iexact HO
  isplitl [Hz] <;> iassumption

/-! ## The sends -/

/-- What hop `k`'s send takes: the staged block, the peer's landing slot, the two duties it pays. -/
def sendA : sProp 𝕄 :=
  iprop(gPts m ρ c (peer c k) ∗ (∃ f, rPts (peer c k) (hop k) f) ∗ dutyTok ER (sendCell c k) 0 0 ∗ dutyTok ER (recvCell (peer c k) k) 0 0)
def sendB : sProp 𝕄 := cred (tallyAt (sendCell c k) () N)
def sendSt (s : ℕ) : sProp 𝕄 := iprop(Ctx m ρ K ∗ owed c (owedSend c s))

/-- What the send makes of the peer's landing slot is the block that peer is to receive. -/
theorem landed (f : Buf (Elt F) ((peer c k : Thread nD τ).loc cc0_scratch1)) :
    (rSlot (hop k)).view.read (Elt F) ((rSlot (hop k)).view.write (Elt F) f ((gSlot c k).view.read (Elt F) (gC m ρ c)) Finset.univ) = inB m ρ (peer c k) k := by
  rw [View.read_write_univ]; unfold inB; rw [back_peer]

theorem gPts_view : gPts m ρ c (peer c k) = ((gSlot c k).view.loc (c : Thread nD τ) ↦[(gSlot c k).view.set]{fullShare} gC m ρ c : sProp 𝕄) := by
  unfold gPts; rw [set_gSlot]
omit [FloatOps F] in
theorem rPts_view (c : Dev nD) (d : Fin 16) (f : Buf (Elt F) ((c : Thread nD τ).loc cc0_scratch1)) :
    rPts c d f = ((rSlot d).view.loc (c : Thread nD τ) ↦[(rSlot d).view.set]{fullShare} f : sProp 𝕄) := by
  unfold rPts; rw [set_rSlot]

theorem send_step' (n : Dev nD) (hn : n = peer c k) (W : Waits sig Unit) (f : Buf (Elt F) ((peer c k : Thread nD τ).loc cc0_scratch1))
    {hsc : (rSlot (hop k) : Memref sig (Dev.tc n : Thread nD τ).2.kind .vmem S256x256 .fp8e5m2).view.ref.isScScratch = false}
    {hsrc : (gSlot c k).view.WordExact} {hdst : (rSlot (hop k)).view.WordExact}
    {hsem : DmaTarget.Typed .vmem (.dma (recvS (hop k))) (.remote (Dev.tc n : Thread nD τ) (rSlot (hop k)) (.dma (sendS (hop k))) hsc)}
    (p : PUnit → TcProg F PUnit) (Q : PUnit → sProp 𝕄) :
    iprop(cellInv ER (ringRd m ρ) (K (c, .inr (.inl k))) (sendCell c k) ∗ cellInv ER (ringRd m ρ) (K (peer c k, .inr (.inr k))) (recvCell (peer c k) k)
        ∗ gPts m ρ c (peer c k) ∗ rPts (peer c k) (hop k) f
        ∗ owes (c : Thread nD τ) (owedSend c k.val) W
        ∗ dutyTok ER (sendCell c k) 0 0 ∗ reached ER (sendCell c k) 0
        ∗ dutyTok ER (recvCell (peer c k) k) 0 0 ∗ reached ER (recvCell (peer c k) k) 0)
      ⊢ iprop(((cred (tallyAt (sendCell c k) () N) ∗ owes (c : Thread nD τ) (owedSend c (k.val + 1)) W) -∗ WP c (p ⟨⟩) Q)
        -∗ WP c (.op (.enqueueDma (gSlot c k) (.remote (Dev.tc n : Thread nD τ) (rSlot (hop k)) (.dma (sendS (hop k))) hsc) (.dma (recvS (hop k))) hsrc hdst hsem) p) Q) := by
  subst hn
  rw [gPts_view, rPts_view]
  exact Rounds.wp_send_pointsTo 𝒱₀ ER (ringRd m ρ) (c : Thread nD τ) none (κ₁ := K (c, .inr (.inl k))) (κ₂ := K (peer c k, .inr (.inr k)))
    (c' := (peer c k : Thread nD τ)) (src := gSlot c k) (dst := rSlot (hop k)) (sS := .dma (sendS (hop k))) (sem := .dma (recvS (hop k))) (fs := gC m ρ c)
    (r₁ := 0) (r₂ := 0) (d₁ := 0) (d₂ := 0) (fd := f)
    (by rw [duties_send]; exact Finset.mem_singleton_self _) (by rw [duties_recv]; exact Finset.mem_singleton_self _)
    () () N (credit_rSlot (hop k)) (amount_send m ρ c k 0) (amount_recv m ρ (peer c k) k 0) (owedSend c (k.val + 1)) (owedSend_step c k) (W := W)
    (by rw [payload_send, gPts_view])
    (by
      rw [payload_recv]; unfold recvPay
      iintro H
      iexists _
      isplitr; · ipureintro; exact landed m ρ c k f
      rw [rPts_view]
      iexact H)

theorem send_step (Q : PUnit → sProp 𝕄) :
    iprop(sendA m ρ c k ∗ sendSt m ρ K c k.val) ⊢ iprop(((sendB c k ∗ sendSt m ρ K c (k.val + 1)) -∗ Q ⟨⟩) -∗ WP c (sendP c k) Q) := by
  unfold sendP sendA sendSt owed sendB
  simp only [Prog.lift]
  iintro ⟨⟨Hg, ⟨%f, Hf⟩, HtS, HtR⟩, #HC, %W, HO⟩ HQ
  iapply (send_step' m ρ K c k _ (sendDev_eq c k) W f) $$ [Hg Hf HtS HtR HO]
  · isplitr; · iapply (inv_send m ρ K c k); iexact HC
    isplitr; · iapply (inv_recv m ρ K (peer c k) k); iexact HC
    isplitl [Hg]; · iexact Hg
    isplitl [Hf]; · iexact Hf
    isplitl [HO]; · iexact HO
    isplitl [HtS]; · iexact HtS
    isplitr; · iapply (reached_send m ρ K c k); iexact HC
    isplitl [HtR]; · iexact HtR
    iapply (reached_recv m ρ K (peer c k) k); iexact HC
  iintro ⟨Hc, HO⟩
  unfold WP
  rw [wp_ret]; imodintro
  iapply HQ
  isplitl [Hc]; · iexact Hc
  isplitr; · iexact HC
  iexists W; iexact HO

/-! ## The waits for the blocks -/

/-- The wait for the block of hop `k`: the landing slot, holding it. -/
theorem recv_step (Q : PUnit → sProp 𝕄) :
    iprop(Ctx m ρ K ∗ owed c 0 ∗ cred (tallyAt (recvCell c k) () N) ∗ atPos ER (recvCell c k) 0 ∅ 0)
      ⊢ iprop(((owed c 0 ∗ recvPay m ρ c k ∗ semVal (recvCell c k) 0) -∗ Q ⟨⟩) -∗ WP c (waitRP c k) Q) := by
  unfold waitRP owed WP
  simp only [Prog.lift]
  iintro ⟨#HC, ⟨%W, HO⟩, Hc, Hat⟩ HQ
  iapply (Rounds.wp_wait_rest_token 𝒱₀ ER (ringRd m ρ) (c : Thread nD τ) none (κ := K (c, .inr (.inr k)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_recv m ρ K c k); iexact HC
    isplitl [Hc]; · iexact Hc
    isplitl [HO]; · iexact HO
    isplitr; · rw [MayWait_zero]; iempintro
    iexact Hat
  iintro ⟨HO, Hat, -, Hpay⟩
  ihave Hp := (Entails.of_eq (rest_recv m ρ c k)) $$ Hpay
  imod (Rounds.cell_close ER (ringRd m ρ) (Set.mem_univ (K (c, .inr (.inr k)))) (fun h => h) (R := 0 + 1) (duties_later m ρ (recvCell c k))) $$ [Hat] with Hz
  · isplitr; · iapply (inv_recv m ρ K c k); iexact HC
    iexact Hat
  rw [wp_ret]; imodintro
  iapply HQ
  isplitl [HO]; · iexists _; iexact HO
  isplitl [Hp] <;> iassumption

/-- The wait for a send to have left: the staged block back. -/
def doneA : sProp 𝕄 := iprop(cred (tallyAt (sendCell c k) () N) ∗ atPos ER (sendCell c k) 0 ∅ 0)
def doneB : sProp 𝕄 := iprop(gPts m ρ c (peer c k) ∗ semVal (sendCell c k) 0)
def doneS : sProp 𝕄 := iprop(Ctx m ρ K ∗ owed c 0)

theorem done_step (Q : PUnit → sProp 𝕄) :
    iprop(doneA c k ∗ doneS m ρ K c) ⊢ iprop(((doneB m ρ c k ∗ doneS m ρ K c) -∗ Q ⟨⟩) -∗ WP c (waitSP c k) Q) := by
  unfold waitSP doneA doneB doneS owed WP
  simp only [Prog.lift]
  iintro ⟨⟨Hc, Hat⟩, #HC, %W, HO⟩ HQ
  iapply (Rounds.wp_wait_rest_token 𝒱₀ ER (ringRd m ρ) (c : Thread nD τ) none (κ := K (c, .inr (.inl k)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_send m ρ K c k); iexact HC
    isplitl [Hc]; · iexact Hc
    isplitl [HO]; · iexact HO
    isplitr; · rw [MayWait_zero]; iempintro
    iexact Hat
  iintro ⟨HO, Hat, -, Hpay⟩
  ihave Hp := (Entails.of_eq (rest_send m ρ c k)) $$ Hpay
  imod (Rounds.cell_close ER (ringRd m ρ) (Set.mem_univ (K (c, .inr (.inl k)))) (fun h => h) (R := 0 + 1) (duties_later m ρ (sendCell c k))) $$ [Hat] with Hz
  · isplitr; · iapply (inv_send m ρ K c k); iexact HC
    iexact Hat
  rw [wp_ret]; imodintro
  iapply HQ
  isplitl [Hp Hz]
  · isplitl [Hp] <;> iassumption
  isplitr; · iexact HC
  iexists _; iexact HO

end

end Cert.Hops

end
-- ==== Proof.Local.lean ====
/-
# `Local`: the pieces that touch the device's own buffers

The staging store, the weight copies, the products and the scaling, each with what it takes and what it leaves; and the
value the output window's staging buffer holds after each: `acc c s` after the device's own product and `s` hops,
`outAt c` at the end.
-/
module

public import proofs.«01_k».proof.Proof.Steps

@[expose] public section

noncomputable section

namespace Cert.Hops
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-! ## The weight rows, by block -/

theorem inb_row : ∀ t : Fin 16, ∀ a, (![256 * t.val, 0] : Fin 2 → Nat) a + S256x8192.size a ≤ S4096x8192.size a := by decide

/-- Rows `256 t …` of the weight array. -/
abbrev wBlk (t : Fin 16) : Memref sig .tc .hbm S256x8192 .f32 :=
  wM.slice (Rect.unit (s := S4096x8192) ![256 * t.val, 0] S256x8192.size (inb_row t)) (fun _ => rfl)

theorem wSlice_eq (t : Fin 16) {off : Fin 2 → Nat} (h : off = ![256 * t.val, 0]) (inb) :
    (wM.slice (Rect.unit (s := S4096x8192) off S256x8192.size inb) (fun _ => rfl) : Memref sig .tc .hbm S256x8192 .f32) = wBlk t := by
  subst h; rfl
theorem wOwn_eq (c : Dev nD) : wOwn c = wBlk c := wSlice_eq c (off2_eq c) _
theorem wHop_eq (c : Dev nD) (k : Fin 15) : wHop c k = wBlk (back c k) := wSlice_eq (back c k) (off3_eq c k) _
theorem set_wBlk (t : Fin 16) : (wBlk t).view.set = rowSet t := (View.set_slice_whole _ _).trans (rect_row _ rfl _)

/-- Device `c`'s weight array, as launched; -/
def warr (c : Dev nD) : Buf (Elt F) ((c : Thread nD τ).loc main_arg1) := (s₀ m ρ).mem ((c : Thread nD τ).loc main_arg1)
/-- its rows block `t`. -/
def wRead (c : Dev nD) (t : Fin 16) : S256x8192.Idx → Elt F .f32 := (wBlk t).view.read (Elt F) (warr m ρ c)

def wPts (c : Dev nD) (t : Fin 16) : sProp 𝕄 := ((c : Thread nD τ).loc main_arg1) ↦[rowSet t]{fullShare} warr m ρ c
def vPts (c : Dev nD) (s : Fin 2) (f : Buf (Elt F) ((c : Thread nD τ).loc cc0_scratch2)) : sProp 𝕄 :=
  ((c : Thread nD τ).loc cc0_scratch2) ↦[halfSet s]{fullShare} f
/-- Half `s` of the weight buffer holding rows block `t`. -/
def vHas (c : Dev nD) (t : Fin 16) (s : Fin 2) : sProp 𝕄 :=
  iprop(∃ f, ⌜(vSlot s).view.read (Elt F) f = wRead m ρ c t⌝ ∗ vPts c s f)
abbrev wgtCell (c : Dev nD) (s : Fin 2) : GSem nD τ sig := ((c : Thread nD τ), .dma (wgtS s))
/-- The credit of one weight copy. -/
abbrev NW : ℕ := (vSlot 0).view.dmaCredit
theorem NW_pos : 0 < NW := View.dmaCredit_pos _ (by decide)
theorem credit_vSlot (s : Fin 2) : (vSlot s).view.dmaCredit = NW := rfl

/-- The copy of rows block `t` into half `s`, on its way. -/
def inFlight (c : Dev nD) (t : Fin 16) (s : Fin 2) : sProp 𝕄 :=
  iprop(∃ f, Flight EC (c : Thread nD τ) (.dma (wgtS s)) () NW
    iprop(vPts c s ((vSlot s).view.write (Elt F) f (wRead m ρ c t) Finset.univ) ∗ wPts m ρ c t))

omit [FloatOps F] in
theorem vPts_view (c : Dev nD) (s : Fin 2) (f : Buf (Elt F) ((c : Thread nD τ).loc cc0_scratch2)) :
    vPts c s f = ((vSlot s).view.loc (c : Thread nD τ) ↦[(vSlot s).view.set]{fullShare} f : sProp 𝕄) := by
  unfold vPts; rw [set_vSlot]
theorem wPts_view (c : Dev nD) (t : Fin 16) :
    wPts m ρ c t = ((wBlk t).view.loc (c : Thread nD τ) ↦[(wBlk t).view.set]{fullShare} warr m ρ c : sProp 𝕄) := by
  unfold wPts; rw [set_wBlk]

/-- Half `s` idle: its elements at some contents, its semaphore at zero. -/
def idle (c : Dev nD) (s : Fin 2) : sProp 𝕄 := iprop((∃ f, vPts c s f) ∗ semVal (wgtCell c s) 0)

theorem start_step (c : Dev nD) (t : Fin 16) (s : Fin 2) (Q : PUnit → sProp 𝕄) :
    iprop(idle c s ∗ wPts m ρ c t) ⊢ iprop((inFlight m ρ c t s -∗ Q ⟨⟩) -∗ WP c (startP (wBlk t) s) Q) := by
  unfold startP idle inFlight WP
  simp only [Prog.lift, vPts_view, wPts_view]
  iintro ⟨⟨⟨%f, Hf⟩, Hs⟩, Hw⟩ HQ
  iapply (wp_dmaLocal EC 𝒱₀ (c : Thread nD τ) none (src := wBlk t) (via := .same) (dst := vSlot s) (sm := .dma (wgtS s)) (q := fullShare)
    (fs := warr m ρ c) (fd := f) () NW (credit_vSlot s) NW_pos (le_refl _)) $$ [Hf Hw Hs]
  · isplitl [Hw]; · iexact Hw
    isplitl [Hf]; · iexact Hf
    iexact Hs
  iintro Hfl
  rw [wp_ret]; imodintro
  iapply HQ
  iexists f
  iexact Hfl

theorem wait_step (c : Dev nD) (t : Fin 16) (s : Fin 2) (Q : PUnit → sProp 𝕄) :
    iprop(inFlight m ρ c t s ∗ owed c 0)
      ⊢ iprop(((vHas m ρ c t s ∗ wPts m ρ c t ∗ semVal (wgtCell c s) 0 ∗ owed c 0) -∗ Q ⟨⟩) -∗ WP c (waitWP (wBlk t) s) Q) := by
  unfold waitWP inFlight owed vHas WP
  simp only [Prog.lift]
  iintro ⟨⟨%f, Hfl⟩, %W, HO⟩ HQ
  iapply (wp_waitLocal EC 𝒱₀ (c : Thread nD τ) none (srcw := wBlk t) (dstw := vSlot s) () (credit_vSlot s)) $$ [Hfl HO]
  · isplitl [Hfl] <;> iassumption
  iintro ⟨⟨Hv, Hw⟩, Hs, HO⟩
  rw [wp_ret]; imodintro
  iapply HQ
  isplitl [Hv]
  · iexists ((vSlot s).view.write (Elt F) f (wRead m ρ c t) Finset.univ)
    isplitr; · ipureintro; exact View.read_write_univ _ _
    iexact Hv
  isplitl [Hw]; · iexact Hw
  isplitl [Hs]; · iexact Hs
  iexists _; iexact HO

/-! ## Staging -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a <;> rfl

/-- Buffer `b` of device `c`, whole, at contents `f`. -/
abbrev whole (c : Dev nD) (b : Ref sig .tc) (f : Buf (Elt F) ((c : Thread nD τ).loc b)) : sProp 𝕄 :=
  ((c : Thread nD τ).loc b) ↦{fullShare} f

theorem stage_step (c : Dev nD) (f) (Q : PUnit → sProp 𝕄) :
    iprop(whole c cc0_stg0_0 (xstg m ρ c) ∗ whole c cc0_scratch0 f)
      ⊢ iprop(((whole c cc0_stg0_0 (xstg m ρ c) ∗ whole c cc0_scratch0 (gC m ρ c)) -∗ Q ⟨⟩) -∗ WP c stageP Q) := by
  unfold stageP WP
  simp only [Prog.lift, Prog.bind_op, Prog.bind_ret, Prog.pure_eq_ret]
  iintro ⟨Hx, Hg⟩ HQ
  iapply (wp_load 𝒱₀ (c : Thread nD τ) none Set.univ (m := xM) (Finset.subset_univ _)) $$ Hx; iintro Hx
  iapply (wp_load 𝒱₀ (c : Thread nD τ) none Set.univ (m := gM) (Finset.subset_univ _)) $$ Hg; iintro Hg
  iapply (wp_store 𝒱₀ (c : Thread nD τ) none Set.univ (m := gM) (r := gRect) (Mk := Finset.univ) (Finset.subset_univ _)) $$ Hg; iintro Hg
  rw [show xM.view.readAt (Elt F) xRect.toLoadRect (xstg m ρ c) = xstg m ρ c from Memref.readAt_unit_zero (Elt F) cc0_stg0_0 hz2 _ _,
    show ∀ w, (gM.access gRect : View sig .tc _ _ _).write (Elt F) f w Finset.univ = w from
      fun w => Memref.write_access_unit_zero_univ (Elt F) cc0_scratch0 hz3 _ f w]
  rw [wp_ret]; imodintro
  iapply HQ
  isplitl [Hx]; · iexact Hx
  iexact Hg

/-! ## The products -/

/-- A block times weight rows (cast), accumulated in f32 from zero. -/
def prodB (a : FVec F S256x256 .fp8e5m2) (w : FVec F S256x8192 .f32) : FVec F S256x8192 .f32 :=
  matmul dot_S256x256_S256x8192_S256x8192_1_0_0_1_n_n none a (truncf .fp8e5m2 w bitsLt_fp8e5m2_f32) (constant S256x8192 .f32 0x00000000#32)
/-- An accumulator and a product more. -/
def addB (o p : FVec F S256x8192 .f32) : FVec F S256x8192 .f32 := addf (shapeCast S256x8192 o shapeCasts_S256x8192_S256x8192) p

/-- The device's own staged block. -/
abbrev gOwn (c : Dev nD) : Memref sig .tc .vmem S256x256 .fp8e5m2 :=
  (gM.slice (Rect.unit (s := S16x256x256) (k0_off4 c) S1x256x256.size (k0_off4_inb c)) (fun _ => rfl)).squeeze S256x256 squeezes_S1x256x256_S256x256
def ownB (c : Dev nD) : S256x256.Idx → Elt F .fp8e5m2 := (gOwn c).view.read (Elt F) (gC m ρ c)

/-- Step `s` as a hop. -/
def hopN (s : ℕ) : Fin 15 := ⟨s % 15, Nat.mod_lt _ (by decide)⟩
theorem hopN_val (k : Fin 15) : hopN k.val = k := Fin.ext (Nat.mod_eq_of_lt k.isLt)
theorem hopN_succ (k : Fin 15) : hopN (k.val + 1) = k + 1 := by revert k; decide

/-- The output after the device's own product and the first `s` hops. -/
def acc (c : Dev nD) : ℕ → FVec F S256x8192 .f32
  | 0 => prodB (ownB m ρ c) (wRead m ρ c c)
  | s + 1 => addB (acc c s) (prodB (inB m ρ c (hopN s)) (wRead m ρ c (back c (hopN s))))

theorem set_accG (c : Dev nD) : (gM.access (Rect.unit (s := S16x256x256) (k0_off4 c) S1x256x256.size (k0_off4_inb c))).set = slotSet c :=
  (View.set_slice_whole _ _).trans (rect_slot _ (off4_eq c) _)
theorem set_accR (d : Fin 16) : (rM.access (Rect.unit (s := S16x256x256) ![d.val, 0, 0] S1x256x256.size (inb_slot d))).set = slotSet d :=
  (View.set_slice_whole _ _).trans (rect_slot _ rfl _)
theorem set_accV (s : Fin 2) : (vM.access (Rect.unit (s := S2x256x8192) ![s.val, 0, 0] S1x256x8192.size (inb_slotW s))).set = halfSet s :=
  (View.set_slice_whole _ _).trans (rect_half _ rfl _)

theorem prod_eq (c : Dev nD) (g) (s : Fin 2) (v) :
    prod (F := F) ((gM.access (Rect.unit (s := S16x256x256) (k0_off4 c) S1x256x256.size (k0_off4_inb c))).read (Elt F) g)
      ((vM.access (Rect.unit (s := S2x256x8192) ![s.val, 0, 0] S1x256x8192.size (inb_slotW s))).read (Elt F) v)
    = prodB ((gOwn c).view.read (Elt F) g) ((vSlot s).view.read (Elt F) v) := rfl
theorem accum_eq (d : Fin 16) (r) (s : Fin 2) (v) (o : FVec F S256x8192 .f32) :
    accum (F := F) ((rM.access (Rect.unit (s := S16x256x256) ![d.val, 0, 0] S1x256x256.size (inb_slot d))).read (Elt F) r)
      ((vM.access (Rect.unit (s := S2x256x8192) ![s.val, 0, 0] S1x256x8192.size (inb_slotW s))).read (Elt F) v) o
    = addB o (prodB ((rSlot d).view.read (Elt F) r) ((vSlot s).view.read (Elt F) v)) := rfl

omit [FloatOps F] in
theorem read_out (f : (cc0_stg3_0 : Ref sig .tc).ty.Contents (Elt F)) : oM.view.readAt (Elt F) oRect.toLoadRect f = f :=
  Memref.readAt_unit_zero (Elt F) cc0_stg3_0 hz2 _ f
omit [FloatOps F] in
theorem write_out (f w : (cc0_stg3_0 : Ref sig .tc).ty.Contents (Elt F)) :
    (oM.access oRect : View sig .tc _ _ _).write (Elt F) f w Finset.univ = w :=
  Memref.write_access_unit_zero_univ (Elt F) cc0_stg3_0 hz2 _ f w

/-- The first product. -/
theorem first_step (c : Dev nD) (f) (Q : PUnit → sProp 𝕄) :
    iprop(gPts m ρ c c ∗ vHas m ρ c c 0 ∗ whole c cc0_stg3_0 f)
      ⊢ iprop(((gPts m ρ c c ∗ vHas m ρ c c 0 ∗ whole c cc0_stg3_0 (acc m ρ c 0)) -∗ Q ⟨⟩) -∗ WP c (firstP c) Q) := by
  unfold firstP WP vHas gPts vPts
  simp only [Prog.lift, Prog.bind_op, Prog.bind_ret, Prog.pure_eq_ret]
  iintro ⟨Hg, ⟨%v, %hv, Hv⟩, Ho⟩ HQ
  iapply (wp_load_rect 𝒱₀ (c : Thread nD τ) none Set.univ (m := gM) (set_accG c).le) $$ Hg; iintro Hg
  iapply (wp_load_rect 𝒱₀ (c : Thread nD τ) none Set.univ (m := vM) (set_accV 0).le) $$ Hv; iintro Hv
  iapply (wp_load 𝒱₀ (c : Thread nD τ) none Set.univ (m := oM) (Finset.subset_univ _)) $$ Ho; iintro Ho
  iapply (wp_store 𝒱₀ (c : Thread nD τ) none Set.univ (m := oM) (r := oRect) (Mk := Finset.univ) (Finset.subset_univ _)) $$ Ho; iintro Ho
  rw [write_out, show prod (F := F) _ _ = acc m ρ c 0 from (prod_eq c _ 0 v).trans (by rw [hv]; rfl)]
  rw [wp_ret]; imodintro
  iapply HQ
  isplitl [Hg]; · iexact Hg
  isplitl [Hv]
  · iexists v; isplitr; · ipureintro; exact hv
    iexact Hv
  iexact Ho

/-- Hop `k`'s product. -/
theorem acc_step (c : Dev nD) (k : Fin 15) (Q : PUnit → sProp 𝕄) :
    iprop(recvPay m ρ c k ∗ vHas m ρ c (back c k) (par (1 + k.val)) ∗ whole c cc0_stg3_0 (acc m ρ c k.val))
      ⊢ iprop(((recvPay m ρ c k ∗ vHas m ρ c (back c k) (par (1 + k.val)) ∗ whole c cc0_stg3_0 (acc m ρ c (k.val + 1))) -∗ Q ⟨⟩) -∗ WP c (accP k) Q) := by
  unfold accP WP vHas recvPay rPts vPts
  simp only [Prog.lift, Prog.bind_op, Prog.bind_ret, Prog.pure_eq_ret]
  iintro ⟨⟨%r, %hr, Hr⟩, ⟨%v, %hv, Hv⟩, Ho⟩ HQ
  iapply (wp_load_rect 𝒱₀ (c : Thread nD τ) none Set.univ (m := rM) (set_accR (hop k)).le) $$ Hr; iintro Hr
  iapply (wp_load_rect 𝒱₀ (c : Thread nD τ) none Set.univ (m := vM) (set_accV (par (1 + k.val))).le) $$ Hv; iintro Hv
  iapply (wp_load 𝒱₀ (c : Thread nD τ) none Set.univ (m := oM) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := oRect) (Mk := Finset.univ) (Finset.subset_univ _)) $$ Ho; iintro Ho
  rw [write_out, read_out, show accum (F := F) _ _ (acc m ρ c k.val) = acc m ρ c (k.val + 1) from
    (accum_eq (hop k) r (par (1 + k.val)) v _).trans (by rw [hv, hr]; show _ = addB (acc m ρ c k.val) _; rw [hopN_val])]
  rw [wp_ret]; imodintro
  iapply HQ
  isplitl [Hr]
  · iexists r; isplitr; · ipureintro; exact hr
    iexact Hr
  isplitl [Hv]
  · iexists v; isplitr; · ipureintro; exact hv
    iexact Hv
  iexact Ho

/-! ## The scaling -/

/-- The two scales as their windows stage them. -/
def astg (c : Dev nD) : (cc0_stg1_0 : Ref sig .tc).ty.Contents (Elt F) :=
  (win0_1.blk (0 : Fin 1)).view.read (Elt F) ((s₀ m ρ).mem ((c : Thread nD τ).loc main_arg2))
def bstg (c : Dev nD) : (cc0_stg2_0 : Ref sig .tc).ty.Contents (Elt F) :=
  (win0_2.blk (0 : Fin 1)).view.read (Elt F) ((s₀ m ρ).mem ((c : Thread nD τ).loc main_arg3))

/-- The one place of a scale. -/
def one1 : S1.Idx := Shape.Idx.first (numel1_S1.symm ▸ Nat.one_pos)

/-- What the kernel leaves in device `c`'s output window. -/
def outAt (c : Dev nD) : (cc0_stg3_0 : Ref sig .tc).ty.Contents (Elt F) := k0_pay1 (astg m ρ c one1) (bstg m ρ c one1) (acc m ρ c 15)

theorem scale_step (c : Dev nD) (Q : PUnit → sProp 𝕄) :
    iprop(whole c cc0_stg1_0 (astg m ρ c) ∗ whole c cc0_stg2_0 (bstg m ρ c) ∗ whole c cc0_stg3_0 (acc m ρ c 15))
      ⊢ iprop(((whole c cc0_stg1_0 (astg m ρ c) ∗ whole c cc0_stg2_0 (bstg m ρ c) ∗ whole c cc0_stg3_0 (outAt m ρ c)) -∗ Q ⟨⟩) -∗ WP c scaleP Q) := by
  unfold scaleP WP smemLoad smemLoadElt
  simp only [Prog.lift, Prog.bind_op, Prog.bind_ret, Prog.pure_eq_ret]
  iintro ⟨Ha, Hb, Ho⟩ HQ
  iapply (wp_load_rect 𝒱₀ (c : Thread nD τ) none Set.univ (m := aM) (r := sRect) (Finset.subset_univ _)) $$ Ha; iintro Ha
  iapply (wp_load_rect 𝒱₀ (c : Thread nD τ) none Set.univ (m := bM) (r := sRect) (Finset.subset_univ _)) $$ Hb; iintro Hb
  iapply (wp_load 𝒱₀ (c : Thread nD τ) none Set.univ (m := oM) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := oRect) (Mk := Finset.univ) (Finset.subset_univ _)) $$ Ho; iintro Ho
  rw [write_out, read_out,
    show (aM.access sRect).read (Elt F) (astg m ρ c) = astg m ρ c from Memref.read_access_unit_zero (Elt F) cc0_stg1_0 hz1 _ _,
    show (bM.access sRect).read (Elt F) (bstg m ρ c) = bstg m ρ c from Memref.read_access_unit_zero (Elt F) cc0_stg2_0 hz1 _ _]
  rw [wp_ret]; imodintro
  iapply HQ
  isplitl [Ha]; · iexact Ha
  isplitl [Hb]; · iexact Hb
  iexact Ho

end Cert.Hops

end
-- ==== Proof.Body.lean ====
/-
# `Body`: one device's whole run of the kernel body

The buffers cut in the parts the steps take and joined back, the steps put together in program order, and the run of
the body from what a device holds at its start to what it holds at its end.
-/
module

public import proofs.«01_k».proof.Proof.Local
public import Idealize.ShloMosaic.Lib.Ring

@[expose] public section

noncomputable section

namespace Cert.Hops
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-! ## The sixteen parts as one and fifteen -/

theorem back_inj (c : Dev nD) {k k' : Fin 15} (h : back c k = back c k') : k = k' := by revert c k k'; decide +kernel
theorem hop_inj {k k' : Fin 15} (h : hop k = hop k') : k = k' := by revert k k'; decide

theorem univ_peer (c : Dev nD) : (Finset.univ : Finset (Fin 16)) = insert c (Finset.univ.map ⟨peer c, fun _ _ => peer_inj c⟩) := by
  revert c; decide +kernel
theorem univ_back (c : Dev nD) : (Finset.univ : Finset (Fin 16)) = insert c (Finset.univ.map ⟨back c, fun _ _ => back_inj c⟩) := by
  revert c; decide +kernel
theorem univ_hop : (Finset.univ : Finset (Fin 16)) = insert 0 (Finset.univ.map ⟨hop, fun _ _ => hop_inj⟩) := by decide
theorem not_mem_peer (c : Dev nD) : c ∉ Finset.univ.map ⟨peer c, fun _ _ => peer_inj c⟩ := by revert c; decide +kernel
theorem not_mem_back (c : Dev nD) : c ∉ Finset.univ.map ⟨back c, fun _ _ => back_inj c⟩ := by revert c; decide +kernel
theorem not_mem_hop : (0 : Fin 16) ∉ Finset.univ.map ⟨hop, fun _ _ => hop_inj⟩ := by decide

omit [FloatOps F] in
theorem by_peer (c : Dev nD) (Φ : Fin 16 → sProp 𝕄) : bigSep Finset.univ Φ = iprop(Φ c ∗ bigSep Finset.univ fun k => Φ (peer c k)) := by
  rw [univ_peer c, bigSep_insert₀ (not_mem_peer c), BI.bigSep_map]; rfl
omit [FloatOps F] in
theorem by_back (c : Dev nD) (Φ : Fin 16 → sProp 𝕄) : bigSep Finset.univ Φ = iprop(Φ c ∗ bigSep Finset.univ fun k => Φ (back c k)) := by
  rw [univ_back c, bigSep_insert₀ (not_mem_back c), BI.bigSep_map]; rfl
omit [FloatOps F] in
theorem by_hop (Φ : Fin 16 → sProp 𝕄) : bigSep Finset.univ Φ = iprop(Φ 0 ∗ bigSep Finset.univ fun k => Φ (hop k)) := by
  rw [univ_hop, bigSep_insert₀ not_mem_hop, BI.bigSep_map]; rfl

theorem toFinset15 : all15.toFinset = Finset.univ := by decide
theorem univ_last : (Finset.univ : Finset (Fin 15)) = insert 14 all14.toFinset := by decide
omit [FloatOps F] in
theorem by_last (Φ : Fin 15 → sProp 𝕄) : bigSep Finset.univ Φ = iprop(Φ 14 ∗ bigSep all14.toFinset Φ) := by
  rw [univ_last, bigSep_insert₀ (by decide)]
/-- The next hop, around. -/
def nextHop : Fin 15 ≃ Fin 15 := ⟨(· + 1), (· + 14), by decide, by decide⟩
omit [FloatOps F] in
theorem by_first (Φ : Fin 15 → sProp 𝕄) : bigSep Finset.univ Φ = iprop(Φ 0 ∗ bigSep all14.toFinset fun k => Φ (k + 1)) := by
  rw [BI.bigSep_univ_equiv nextHop Φ, by_last]; rfl

/-! ## The buffers in parts -/

section
variable {ℓ : Loc nD τ sig} {B : Type} [Fintype B] [DecidableEq B] (I : B → Finset (Idx ℓ))
  (hd : ∀ i b b', i ∈ I b → i ∈ I b' → b = b') (hc : ∀ i, ∃ b, i ∈ I b)
omit [FloatOps F] in
include hd hc in
/-- A whole buffer is its parts, each index in exactly one; -/
theorem cut (f : Buf (Elt F) ℓ) : (ℓ ↦{fullShare} f : sProp 𝕄) = bigSep Finset.univ fun b => ℓ ↦[I b]{fullShare} f :=
  Ring.pointsTo_blocks I (fun b b' h => Finset.disjoint_left.mpr fun i hi hi' => h (hd i b b' hi hi'))
    (Finset.eq_univ_iff_forall.mpr fun i => (hc i).elim fun b hb => Finset.mem_biUnion.mpr ⟨b, Finset.mem_univ _, hb⟩) f
omit [FloatOps F] in
include hd hc in
/-- and parts at contents of their own are a whole buffer again. -/
theorem mend (f₀ : Buf (Elt F) ℓ) : bigSep Finset.univ (fun b => iprop(∃ f, ℓ ↦[I b]{fullShare} f)) ⊢ (iprop(∃ g, ℓ ↦{fullShare} g) : sProp 𝕄) :=
  Ring.pointsTo_blocks_join_exists I (fun b b' h => Finset.disjoint_left.mpr fun i hi hi' => h (hd i b b' hi hi'))
    (Finset.eq_univ_iff_forall.mpr fun i => (hc i).elim fun b hb => Finset.mem_biUnion.mpr ⟨b, Finset.mem_univ _, hb⟩) f₀
end

theorem slot_one (i : S16x256x256.Idx) (a b : Fin 16) (ha : i ∈ slotSet a) (hb : i ∈ slotSet b) : a = b :=
  Fin.ext ((mem_slotSet.mp ha).symm.trans (mem_slotSet.mp hb))
theorem row_one (i : S4096x8192.Idx) (a b : Fin 16) (ha : i ∈ rowSet a) (hb : i ∈ rowSet b) : a = b :=
  Fin.ext ((mem_rowSet.mp ha).symm.trans (mem_rowSet.mp hb))
theorem half_one (i : S2x256x8192.Idx) (a b : Fin 2) (ha : i ∈ halfSet a) (hb : i ∈ halfSet b) : a = b :=
  Fin.ext ((mem_halfSet.mp ha).symm.trans (mem_halfSet.mp hb))
theorem slot_some (i : S16x256x256.Idx) : ∃ t, i ∈ slotSet t := ⟨⟨(i 0).val, (i 0).isLt⟩, mem_slotSet.mpr rfl⟩
theorem row_some (i : S4096x8192.Idx) : ∃ t, i ∈ rowSet t :=
  ⟨⟨(i 0).val / 256, by have : (i 0).val < 4096 := (i 0).isLt; omega⟩, mem_rowSet.mpr rfl⟩
theorem half_some (i : S2x256x8192.Idx) : ∃ s, i ∈ halfSet s := ⟨⟨(i 0).val, (i 0).isLt⟩, mem_halfSet.mpr rfl⟩

/-- The staging buffer, slot by slot: the device's own, and one for each hop; -/
theorem staged_parts (c : Dev nD) :
    whole c cc0_scratch0 (gC m ρ c) = iprop(gPts m ρ c c ∗ bigSep Finset.univ fun k => gPts m ρ c (peer c k)) := by
  rw [← by_peer c fun t => gPts m ρ c t]
  exact cut (ℓ := (c : Thread nD τ).loc cc0_scratch0) (B := Fin 16) slotSet slot_one slot_some (gC m ρ c)
/-- the weight array, rows block by rows block, in the order they are used; -/
theorem weight_parts (c : Dev nD) :
    whole c main_arg1 (warr m ρ c) = iprop(wPts m ρ c c ∗ bigSep Finset.univ fun k => wPts m ρ c (back c k)) := by
  rw [← by_back c fun t => wPts m ρ c t]
  exact cut (ℓ := (c : Thread nD τ).loc main_arg1) (B := Fin 16) rowSet row_one row_some (warr m ρ c)
omit [FloatOps F] in
/-- the landing buffer, slot by slot, each hop's slot listed at the signal that hands it over; -/
theorem landing_split (c : Dev nD) (f) :
    whole (F := F) c cc0_scratch1 f ⊢ iprop((∃ f, rPts c 0 f) ∗ bigSep Finset.univ fun k : Fin 15 => iprop(∃ f, rPts c (hop k.rev) f)) := by
  rw [show whole c cc0_scratch1 f = bigSep Finset.univ (fun t => rPts c t f) from
      cut (ℓ := (c : Thread nD τ).loc cc0_scratch1) (B := Fin 16) slotSet slot_one slot_some f,
    show (bigSep Finset.univ fun k : Fin 15 => iprop(∃ f, rPts (F := F) c (hop k.rev) f)) = bigSep Finset.univ fun k : Fin 15 => iprop(∃ f, rPts c (hop k) f) from
      (BI.bigSep_univ_equiv Fin.revPerm (fun k : Fin 15 => iprop(∃ f, rPts (F := F) c (hop k) f))).symm,
    ← by_hop fun t => iprop(∃ f, rPts (F := F) c t f)]
  have h : ∀ t, rPts c t f ⊢ iprop(∃ f, rPts (F := F) c t f) := by
    intro t; iintro H; iexists f; iexact H
  exact BI.bigSep_mono fun t _ => h t
omit [FloatOps F] in
theorem landing_join (c : Dev nD) :
    iprop((∃ f, rPts c 0 f) ∗ bigSep Finset.univ fun k : Fin 15 => iprop(∃ f, rPts (F := F) c (hop k) f)) ⊢ iprop(∃ f, whole c cc0_scratch1 f) := by
  rw [← by_hop fun t => iprop(∃ f, rPts (F := F) c t f)]
  have h : ∀ f₀ : Buf (Elt F) ((c : Thread nD τ).loc cc0_scratch1), bigSep Finset.univ (fun t => iprop(∃ f, rPts (F := F) c t f)) ⊢ iprop(∃ f, whole c cc0_scratch1 f) :=
    fun f₀ => mend (ℓ := (c : Thread nD τ).loc cc0_scratch1) (B := Fin 16) slotSet slot_one slot_some f₀
  rw [by_hop] at h ⊢
  iintro ⟨⟨%f, H0⟩, H⟩
  iapply (h f)
  isplitl [H0]
  · iexists f; iexact H0
  iexact H
omit [FloatOps F] in
/-- the weight buffer, half by half. -/
theorem halves_split (c : Dev nD) (f) : whole (F := F) c cc0_scratch2 f ⊢ iprop((∃ f, vPts c 0 f) ∗ ∃ f, vPts c 1 f) := by
  rw [show whole c cc0_scratch2 f = bigSep Finset.univ (fun s => vPts c s f) from
      cut (ℓ := (c : Thread nD τ).loc cc0_scratch2) (B := Fin 2) halfSet half_one half_some f,
    BI.bigSep_univ_eq_bigSepL [(0 : Fin 2), 1] (by decide) (by decide)]
  show iprop(vPts c 0 f ∗ vPts c 1 f) ⊢ _
  iintro ⟨H0, H1⟩
  isplitl [H0]
  · iexists f; iexact H0
  iexists f; iexact H1
omit [FloatOps F] in
theorem halves_join (c : Dev nD) : iprop((∃ f, vPts c 0 f) ∗ ∃ f, vPts (F := F) c 1 f) ⊢ iprop(∃ f, whole c cc0_scratch2 f) := by
  have h : ∀ f₀ : Buf (Elt F) ((c : Thread nD τ).loc cc0_scratch2), bigSep Finset.univ (fun s => iprop(∃ f, vPts (F := F) c s f)) ⊢ iprop(∃ f, whole c cc0_scratch2 f) :=
    fun f₀ => mend (ℓ := (c : Thread nD τ).loc cc0_scratch2) (B := Fin 2) halfSet half_one half_some f₀
  rw [BI.bigSep_univ_eq_bigSepL [(0 : Fin 2), 1] (by decide) (by decide)] at h
  iintro ⟨⟨%f, H0⟩, H⟩
  iapply (show iprop((∃ f, vPts (F := F) c 0 f) ∗ ∃ f, vPts c 1 f) ⊢ iprop(∃ f, whole c cc0_scratch2 f) from h f)
  isplitl [H0]
  · iexists f; iexact H0
  iexact H

/-! ## A middle hop -/

section
variable (K : Dev nD × CIx → ℕ) (c : Dev nD)

theorem has_idle (t : Fin 16) (s : Fin 2) : iprop(vHas m ρ c t s ∗ semVal (wgtCell c s) 0) ⊢ idle c s := by
  unfold vHas idle
  iintro ⟨⟨%f, -, Hf⟩, Hs⟩
  isplitl [Hf]
  · iexists f; iexact Hf
  iexact Hs

theorem par_next (k : ℕ) : par (1 + k) = par (2 + (k + 1)) := Fin.ext (by show (1 + k) % 2 = (2 + (k + 1)) % 2; omega)
theorem par_succ (k : ℕ) : par (2 + k) = par (1 + (k + 1)) := Fin.ext (by show (2 + k) % 2 = (1 + (k + 1)) % 2; omega)

/-- Before hop `s`: its weight rows on their way, the other half idle, the sum so far staged. -/
def midS (s : ℕ) : sProp 𝕄 :=
  iprop(Ctx m ρ K ∗ owed c 0 ∗ inFlight m ρ c (back c (hopN s)) (par (1 + s)) ∗ idle c (par (2 + s)) ∗ whole c cc0_stg3_0 (acc m ρ c s))
def midA (k : Fin 15) : sProp 𝕄 := iprop(wPts m ρ c (back c (k + 1)) ∗ cred (tallyAt (recvCell c k) () N) ∗ atPos ER (recvCell c k) 0 ∅ 0)
def midB (k : Fin 15) : sProp 𝕄 := iprop(wPts m ρ c (back c k) ∗ recvPay m ρ c k ∗ semVal (recvCell c k) 0)

/-- The end of a hop: its rows' arrival, its block's arrival, its product. -/
theorem hop_step (k : Fin 15) (R : sProp 𝕄) (Q : PUnit → sProp 𝕄) :
    iprop(Ctx m ρ K ∗ owed c 0 ∗ inFlight m ρ c (back c k) (par (1 + k.val)) ∗ cred (tallyAt (recvCell c k) () N) ∗ atPos ER (recvCell c k) 0 ∅ 0
        ∗ whole c cc0_stg3_0 (acc m ρ c k.val))
      ⊢ iprop(((owed c 0 ∗ midB m ρ c k ∗ idle c (par (1 + k.val)) ∗ whole c cc0_stg3_0 (acc m ρ c (k.val + 1))) -∗ Q ⟨⟩)
        -∗ WP c (waitWP (wHop c k) (par (1 + k.val))) fun _ => WP c (waitRP c k) fun _ => WP c (accP k) Q) := by
  rw [wHop_eq]
  iintro ⟨#HC, HO, Hfl, Hc, Hat, Ho⟩ HQ
  iapply (wait_step m ρ c (back c k) (par (1 + k.val))) $$ [Hfl HO]
  · isplitl [Hfl] <;> iassumption
  iintro ⟨Hv, Hw, Hs, HO⟩
  iapply (recv_step m ρ K c k) $$ [HO Hc Hat]
  · isplitr; · iexact HC
    isplitl [HO]; · iexact HO
    isplitl [Hc] <;> iassumption
  iintro ⟨HO, Hr, Hz⟩
  iapply (acc_step m ρ c k) $$ [Hr Hv Ho]
  · isplitl [Hr]; · iexact Hr
    isplitl [Hv] <;> iassumption
  iintro ⟨Hr, Hv, Ho⟩
  iapply HQ
  isplitl [HO]; · iexact HO
  isplitl [Hw Hr Hz]
  · unfold midB
    isplitl [Hw]; · iexact Hw
    isplitl [Hr] <;> iassumption
  isplitl [Hv Hs]
  · iapply (has_idle m ρ c (back c k) (par (1 + k.val)))
    isplitl [Hv] <;> iassumption
  iexact Ho

theorem mid_step (k : Fin 15) (Q : PUnit → sProp 𝕄) :
    iprop(midA m ρ c k ∗ midS m ρ K c k.val) ⊢ iprop(((midB m ρ c k ∗ midS m ρ K c (k.val + 1)) -∗ Q ⟨⟩) -∗ WP c (midP c k) Q) := by
  unfold midP midA midS WP
  simp only [wp_bind]
  rw [hopN_val, hopN_succ, ← par_next, ← par_succ, wHop_eq c (k + 1)]
  iintro ⟨⟨Hw, Hc, Hat⟩, #HC, HO, Hfl, Hi, Ho⟩ HQ
  iapply (start_step m ρ c (back c (k + 1)) (par (2 + k.val))) $$ [Hi Hw]
  · isplitl [Hi] <;> iassumption
  iintro Hfl'
  iapply (hop_step m ρ K c k iprop(emp)) $$ [HO Hfl Hc Hat Ho]
  · isplitr; · iexact HC
    isplitl [HO]; · iexact HO
    isplitl [Hfl]; · iexact Hfl
    isplitl [Hc]; · iexact Hc
    isplitl [Hat] <;> iassumption
  iintro ⟨HO, HB, Hi, Ho⟩
  iapply HQ
  isplitl [HB]; · iexact HB
  isplitr; · iexact HC
  isplitl [HO]; · iexact HO
  isplitl [Hfl']; · iexact Hfl'
  isplitl [Hi] <;> iassumption

/-! ## The body -/

/-- What a device holds at the body's start, in parts. -/
def bodyIn : sProp 𝕄 :=
  iprop(Ctx m ρ K ∗ owed c (O₀ c)
    ∗ (cred (tallyAt (barCell c) () 15) ∗ atPos ER (barCell c) 0 ∅ 0)
    ∗ (bigSep Finset.univ fun k => sigA (F := F) c k)
    ∗ (bigSep Finset.univ fun k : Fin 15 => iprop(dutyTok ER (sendCell c k) 0 0 ∗ dutyTok ER (recvCell (peer c k) k) 0 0))
    ∗ (bigSep Finset.univ fun k : Fin 15 => iprop(cred (tallyAt (recvCell c k) () N) ∗ atPos ER (recvCell c k) 0 ∅ 0))
    ∗ (bigSep Finset.univ fun k : Fin 15 => atPos ER (sendCell c k) 0 ∅ 0)
    ∗ whole c main_arg1 (warr m ρ c) ∗ idle c 0 ∗ idle c 1
    ∗ (∃ f, whole c cc0_scratch0 f)
    ∗ (whole c cc0_stg0_0 (xstg m ρ c) ∗ whole c cc0_stg1_0 (astg m ρ c) ∗ whole c cc0_stg2_0 (bstg m ρ c) ∗ ∃ f, whole c cc0_stg3_0 f))

/-- What it holds at its end. -/
def bodyOut : sProp 𝕄 :=
  iprop(owed c 0 ∗ semVal (barCell c) 0
    ∗ (bigSep Finset.univ fun k : Fin 15 => semVal (sendCell c k) 0)
    ∗ (bigSep Finset.univ fun k : Fin 15 => semVal (recvCell c k) 0)
    ∗ (bigSep Finset.univ fun k : Fin 15 => iprop(∃ f, rPts c (hop k) f))
    ∗ whole c main_arg1 (warr m ρ c) ∗ idle c 0 ∗ idle c 1
    ∗ whole c cc0_scratch0 (gC m ρ c)
    ∗ (whole c cc0_stg0_0 (xstg m ρ c) ∗ whole c cc0_stg1_0 (astg m ρ c) ∗ whole c cc0_stg2_0 (bstg m ρ c) ∗ whole c cc0_stg3_0 (outAt m ρ c)))

theorem sends_ready :
    iprop((bigSep Finset.univ fun k => gPts m ρ c (peer c k)) ∗ (bigSep Finset.univ fun e => barPay (F := F) c e)
        ∗ bigSep Finset.univ fun k : Fin 15 => iprop(dutyTok ER (sendCell c k) 0 0 ∗ dutyTok ER (recvCell (peer c k) k) 0 0))
      ⊢ bigSep Finset.univ fun k => sendA m ρ c k := by
  have h : ∀ k, iprop(gPts m ρ c (peer c k) ∗ barPay (F := F) c k ∗ dutyTok ER (sendCell c k) 0 0 ∗ dutyTok ER (recvCell (peer c k) k) 0 0)
      ⊢ sendA m ρ c k := by
    intro k
    unfold barPay sendA
    iintro ⟨Hg, ⟨Hf, -⟩, Ht⟩
    isplitl [Hg]; · iexact Hg
    isplitl [Hf]; · iexact Hf
    iexact Ht
  rw [← bigSep_sep', ← bigSep_sep']
  exact BI.bigSep_mono fun k _ => h k

theorem hops_done :
    (bigSep Finset.univ fun k => midB m ρ c k)
      ⊢ iprop((bigSep Finset.univ fun k => wPts m ρ c (back c k)) ∗ (bigSep Finset.univ fun k : Fin 15 => iprop(∃ f, rPts (F := F) c (hop k) f))
        ∗ bigSep Finset.univ fun k : Fin 15 => semVal (recvCell c k) 0) := by
  have h : ∀ k, midB m ρ c k ⊢ iprop(wPts m ρ c (back c k) ∗ (∃ f, rPts (F := F) c (hop k) f) ∗ semVal (recvCell c k) 0) := by
    intro k
    unfold midB recvPay
    iintro ⟨Hw, ⟨%f, -, Hf⟩, Hz⟩
    isplitl [Hw]; · iexact Hw
    isplitl [Hf]
    · iexists f; iexact Hf
    iexact Hz
  rw [← bigSep_sep', ← bigSep_sep']
  exact BI.bigSep_mono fun k _ => h k

theorem mids_ready (s : Finset (Fin 15)) :
    iprop((bigSep s fun k => wPts m ρ c (back c (k + 1))) ∗ bigSep s fun k => iprop(cred (tallyAt (recvCell c k) () N) ∗ atPos ER (recvCell c k) 0 ∅ 0))
      = bigSep s (midA m ρ c) := (bigSep_sep' s _ _).symm
theorem dones_ready (s : Finset (Fin 15)) :
    iprop((bigSep s fun k => sendB c k) ∗ bigSep s fun k => atPos ER (sendCell c k) 0 ∅ 0) = bigSep s (doneA (F := F) c) := (bigSep_sep' s _ _).symm
theorem dones_done (s : Finset (Fin 15)) :
    bigSep s (doneB m ρ c) = iprop((bigSep s fun k => gPts m ρ c (peer c k)) ∗ bigSep s fun k => semVal (sendCell c k) 0) := bigSep_sep' s _ _

set_option maxHeartbeats 1000000 in
/-- The body run, from `bodyIn` to `bodyOut`. -/
theorem body_run (Q : PUnit → sProp 𝕄) : iprop(bodyIn m ρ K c) ⊢ iprop((bodyOut m ρ c -∗ Q ⟨⟩) -∗ WP c (loops c) Q) := by
  unfold loops bodyIn WP
  simp only [wp_bind]
  rw [wOwn_eq, wHop_eq c 0, weight_parts]
  iintro ⟨#HC, HO, ⟨HcB, HatB⟩, HsA, Htok, HrA, HatS, ⟨Hw0, Hw⟩, Hi0, Hi1, ⟨%f0, Hg⟩, Hx, Ha, Hb, %f3, Ho⟩ HQ
  -- the signals and the barrier wait
  iapply (wp_seqL c (sigP c) (fun k => sigA c k) (fun _ => iprop(emp)) (sigS m ρ K c) _ all15 0 rfl (fun k _ => sig_step m ρ K c k)) $$ [HO HsA]
  · rw [toFinset15]
    isplitl [HsA]; · iexact HsA
    unfold sigS; isplitr; · iexact HC
    iexact HO
  rw [show sigS m ρ K c (0 + all15.length) = iprop(Ctx m ρ K ∗ owed c (owedSend c 0)) from by
    show sigS m ρ K c 15 = _; unfold sigS; rw [owedSig_end, zero_add]]
  iintro ⟨-, -, HO⟩
  iapply (bar_step m ρ K c) $$ [HO HcB HatB]
  · isplitr; · iexact HC
    isplitl [HO]; · iexact HO
    isplitl [HcB] <;> iassumption
  iintro ⟨HO, HzB, HbP⟩
  -- the staging and the sends
  iapply (stage_step m ρ c f0) $$ [Hx Hg]
  · isplitl [Hx] <;> iassumption
  iintro ⟨Hx, Hg⟩
  ihave Hg' := (Entails.of_eq (staged_parts m ρ c)) $$ Hg
  icases Hg' with ⟨Hg0, Hg⟩
  iapply (wp_seqL c (sendP c) (sendA m ρ c) (sendB c) (sendSt m ρ K c) _ all15 0 rfl (fun k _ => send_step m ρ K c k)) $$ [HO Hg HbP Htok]
  · rw [toFinset15]
    isplitl [Hg HbP Htok]
    · iapply (sends_ready m ρ c)
      isplitl [Hg]; · iexact Hg
      isplitl [HbP] <;> iassumption
    unfold sendSt; isplitr; · iexact HC
    iexact HO
  rw [show sendSt m ρ K c (0 + all15.length) = iprop(Ctx m ρ K ∗ owed c 0) from by
    show sendSt m ρ K c 15 = _; unfold sendSt; rw [owedSend_end]]
  iintro ⟨HsB, -, HO⟩
  -- the first two weight copies; the device's own product
  iapply (start_step m ρ c c 0) $$ [Hi0 Hw0]
  · isplitl [Hi0] <;> iassumption
  iintro Hfl0
  ihave Hw := (Entails.of_eq (by_first fun k => wPts m ρ c (back c k))) $$ Hw
  ihave HrA := (Entails.of_eq (by_last fun k => iprop(cred (tallyAt (recvCell c k) () N) ∗ atPos ER (recvCell c k) 0 ∅ 0))) $$ HrA
  icases Hw with ⟨Hw1, Hw⟩
  icases HrA with ⟨⟨HcL, HatL⟩, HrA⟩
  iapply (start_step m ρ c (back c 0) 1) $$ [Hi1 Hw1]
  · isplitl [Hi1] <;> iassumption
  iintro Hfl1
  iapply (wait_step m ρ c c 0) $$ [Hfl0 HO]
  · isplitl [Hfl0] <;> iassumption
  iintro ⟨Hv, Hw0, Hs, HO⟩
  iapply (first_step m ρ c f3) $$ [Hg0 Hv Ho]
  · isplitl [Hg0]; · iexact Hg0
    isplitl [Hv] <;> iassumption
  iintro ⟨Hg0, Hv, Ho⟩
  ihave Hi0 := (has_idle m ρ c c 0) $$ [Hv Hs]
  · isplitl [Hv] <;> iassumption
  -- the middle hops
  iapply (wp_seqL c (midP c) (midA m ρ c) (midB m ρ c) (midS m ρ K c) _ all14 0 rfl (fun k _ => mid_step m ρ K c k)) $$ [HO Hw HrA Hfl1 Hi0 Ho]
  · isplitl [Hw HrA]
    · iapply (Entails.of_eq (mids_ready m ρ c _))
      isplitl [Hw] <;> iassumption
    unfold midS
    isplitr; · iexact HC
    isplitl [HO]; · iexact HO
    isplitl [Hfl1]; · iexact Hfl1
    isplitl [Hi0]; · iexact Hi0
    iexact Ho
  rw [show midS m ρ K c (0 + all14.length)
    = iprop(Ctx m ρ K ∗ owed c 0 ∗ inFlight m ρ c (back c 14) 1 ∗ idle c 0 ∗ whole c cc0_stg3_0 (acc m ρ c 14)) from rfl]
  iintro ⟨HB, -, HO, Hfl, Hi0, Ho⟩
  -- the last
  iapply (hop_step m ρ K c 14 iprop(emp)) $$ [HO Hfl HcL HatL Ho]
  · isplitr; · iexact HC
    isplitl [HO]; · iexact HO
    isplitl [Hfl]; · iexact Hfl
    isplitl [HcL]; · iexact HcL
    isplitl [HatL]; · iexact HatL
    iexact Ho
  iintro ⟨HO, HBL, Hi1, Ho⟩
  ihave HB := (Entails.of_eq (by_last (midB m ρ c)).symm) $$ [HB HBL]
  · isplitl [HBL]; · iexact HBL
    iexact HB
  ihave HB := (hops_done m ρ c) $$ HB
  icases HB with ⟨Hw, Hr, HzR⟩
  -- the sends have left
  iapply (wp_seqL c (waitSP c) (doneA c) (doneB m ρ c) (fun _ => doneS m ρ K c) _ all15 0 rfl (fun k _ => done_step m ρ K c k)) $$ [HO HsB HatS]
  · rw [toFinset15]
    isplitl [HsB HatS]
    · iapply (Entails.of_eq (dones_ready c _))
      isplitl [HsB]; · iexact HsB
      iexact HatS
    unfold doneS; isplitr; · iexact HC
    iexact HO
  rw [toFinset15, dones_done]
  unfold doneS
  iintro ⟨⟨Hg, HzS⟩, -, HO⟩
  ihave Hg := (Entails.of_eq (staged_parts m ρ c).symm) $$ [Hg0 Hg]
  · isplitl [Hg0] <;> iassumption
  -- the scaling
  iapply (scale_step m ρ c) $$ [Ha Hb Ho]
  · isplitl [Ha]; · iexact Ha
    isplitl [Hb]; · iexact Hb
    iexact Ho
  iintro ⟨Ha, Hb, Ho⟩
  iapply HQ
  unfold bodyOut
  rw [weight_parts]
  isplitl [HO]; · iexact HO
  isplitl [HzB]; · iexact HzB
  isplitl [HzS]; · iexact HzS
  isplitl [HzR]; · iexact HzR
  isplitl [Hr]; · iexact Hr
  isplitl [Hw0 Hw]
  · isplitl [Hw0] <;> iassumption
  isplitl [Hi0]; · iexact Hi0
  isplitl [Hi1]; · iexact Hi1
  isplitl [Hg]; · iexact Hg
  isplitl [Hx]; · iexact Hx
  isplitl [Ha]; · iexact Ha
  isplitl [Hb] <;> iassumption

end

end Cert.Hops

end
-- ==== Proof.Device.lean ====
/-
# `Device`: the body obligation of one device

What a device's share of the launch is (`start`), the proof data of the window pipeline (`dats`), and the body
obligation the launch theorem asks for, from `Body`.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.Hops
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The two semaphores no hop uses and the two of the weight copies, at zero. -/
def zeros (c : Dev nD) : sProp 𝕄 :=
  iprop(semVal ((c : Thread nD τ), .dma (sendS 0)) 0 ∗ semVal ((c : Thread nD τ), .dma (recvS 0)) 0 ∗ semVal (wgtCell c 0) 0 ∗ semVal (wgtCell c 1) 0)

/-- A device's positions at its cells, and the duties it will pay. -/
def linear (c : Dev nD) : sProp 𝕄 :=
  iprop((atPos ER (barCell c) 0 ∅ 0 ∗ (bigSep Finset.univ fun k : Fin 15 => atPos ER (sendCell c k) 0 ∅ 0)
      ∗ bigSep Finset.univ fun k : Fin 15 => atPos ER (recvCell c k) 0 ∅ 0)
    ∗ (bigSep Finset.univ fun k : Fin 15 => dutyTok ER (barCell (peer c k)) 0 k.rev)
    ∗ (bigSep Finset.univ fun k : Fin 15 => dutyTok ER (sendCell c k) 0 0)
    ∗ bigSep Finset.univ fun k : Fin 15 => dutyTok ER (recvCell (peer c k) k) 0 0)

/-- What the launch gives a device beside its scoped buffers. -/
def start (c : Dev nD) : sProp 𝕄 :=
  iprop((∃ K, Ctx m ρ K) ∗ linear (F := F) c ∗ zeros c
    ∗ cred (tallyAt (barCell c) () 15) ∗ (bigSep Finset.univ fun k : Fin 15 => cred (tallyAt (recvCell c k) () N))
    ∗ whole c main_arg1 (warr m ρ c))

/-- The three scratch buffers at some contents. -/
def scratch (c : Dev nD) : sProp 𝕄 :=
  iprop((∃ f, whole (F := F) c cc0_scratch0 f) ∗ (∃ f, whole c cc0_scratch1 f) ∗ ∃ f, whole c cc0_scratch2 f)

/-- Before the body runs; -/
def Φ₀ (c : Dev nD) : sProp 𝕄 := iprop(start m ρ c ∗ scratch c)
/-- after it: every semaphore at zero, the weight array as it was. -/
def Φ₁ (c : Dev nD) : sProp 𝕄 :=
  iprop((semVal (barCell c) 0 ∗ whole c main_arg1 (warr m ρ c))
    ∗ (zeros c ∗ (bigSep Finset.univ fun k : Fin 15 => semVal (sendCell c k) 0) ∗ bigSep Finset.univ fun k : Fin 15 => semVal (recvCell c k) 0)
    ∗ scratch c)

/-- The pipeline's data on device `c`: the arrays as launched, what each staging buffer holds after the body. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => astg m ρ c
    | ⟨2, _⟩ => bstg m ρ c
    | ⟨3, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ whole c b f) := by
  unfold owns; simp only [Memref.view_whole, View.read_whole, View.set_whole]

/-- Staging buffer `b` at contents `X`, as the pipeline hands it over. -/
abbrev stg (c : Dev nD) (b : Ref sig .tc) (X : b.ty.Contents (Elt F)) : sProp 𝕄 :=
  iprop(∃ f : Buf (Elt F) ((c : Thread nD τ).loc b), ⌜f = X⌝ ∗ whole c b f)

section Ends
variable (K : Dev nD × CIx → ℕ) (c : Dev nD)

omit [FloatOps F] in
theorem sigs_ready :
    iprop((bigSep Finset.univ fun k : Fin 15 => dutyTok ER (barCell (peer c k)) 0 k.rev)
        ∗ bigSep Finset.univ fun k : Fin 15 => iprop(∃ f, rPts (F := F) c (hop k.rev) f))
      = bigSep Finset.univ fun k => sigA (F := F) c k := (bigSep_sep' _ _ _).symm
omit [FloatOps F] in
theorem toks_ready :
    iprop((bigSep Finset.univ fun k : Fin 15 => (dutyTok ER (sendCell c k) 0 0 : sProp 𝕄)) ∗ bigSep Finset.univ fun k : Fin 15 => dutyTok ER (recvCell (peer c k) k) 0 0)
      = bigSep Finset.univ fun k : Fin 15 => iprop(dutyTok ER (sendCell c k) 0 0 ∗ dutyTok ER (recvCell (peer c k) k) 0 0) := (bigSep_sep' _ _ _).symm
omit [FloatOps F] in
theorem recvs_ready :
    iprop((bigSep Finset.univ fun k : Fin 15 => (cred (tallyAt (recvCell c k) () N) : sProp 𝕄)) ∗ bigSep Finset.univ fun k : Fin 15 => atPos ER (recvCell c k) 0 ∅ 0)
      = bigSep Finset.univ fun k : Fin 15 => iprop(cred (tallyAt (recvCell c k) () N) ∗ atPos ER (recvCell c k) 0 ∅ 0) := (bigSep_sep' _ _ _).symm

/-- The device's run from its share of the launch to its end. -/
theorem device_run (f3) (Q : PUnit → sProp 𝕄) :
    iprop(Φ₀ m ρ c ∗ owed c (O₀ c) ∗ whole c cc0_stg0_0 (xstg m ρ c) ∗ whole c cc0_stg1_0 (astg m ρ c) ∗ whole c cc0_stg2_0 (bstg m ρ c)
        ∗ whole c cc0_stg3_0 f3)
      ⊢ iprop(((Φ₁ m ρ c ∗ owed c 0 ∗ whole c cc0_stg0_0 (xstg m ρ c) ∗ whole c cc0_stg1_0 (astg m ρ c) ∗ whole c cc0_stg2_0 (bstg m ρ c)
        ∗ whole c cc0_stg3_0 (outAt m ρ c)) -∗ Q ⟨⟩) -∗ WP c (loops c) Q) := by
  unfold Φ₀ start linear zeros scratch
  iintro ⟨⟨⟨⟨%K, HC⟩, ⟨⟨HaB, HaS, HaR⟩, HtB, HtS, HtR⟩, ⟨Hz1, Hz2, Hz3, Hz4⟩, HcB, HcR, Hw⟩, Hg, ⟨%fr, Hr⟩, ⟨%fv, Hv⟩⟩, HO, Hx, Ha, Hb, Ho⟩ HQ
  ihave Hr := (landing_split c fr) $$ Hr
  icases Hr with ⟨Hr0, Hr⟩
  ihave Hv := (halves_split c fv) $$ Hv
  icases Hv with ⟨Hv0, Hv1⟩
  iapply (body_run m ρ K c) $$ [HC HaB HaS HaR HtB HtS HtR Hz3 Hz4 HcB HcR Hw Hg Hr Hv0 Hv1 HO Hx Ha Hb Ho]
  · unfold bodyIn
    isplitl [HC]; · iexact HC
    isplitl [HO]; · iexact HO
    isplitl [HcB HaB]
    · isplitl [HcB] <;> iassumption
    isplitl [HtB Hr]
    · iapply (Entails.of_eq (sigs_ready c))
      isplitl [HtB] <;> iassumption
    isplitl [HtS HtR]
    · iapply (Entails.of_eq (toks_ready c))
      isplitl [HtS] <;> iassumption
    isplitl [HcR HaR]
    · iapply (Entails.of_eq (recvs_ready c))
      isplitl [HcR] <;> iassumption
    isplitl [HaS]; · iexact HaS
    isplitl [Hw]; · iexact Hw
    unfold idle
    isplitl [Hv0 Hz3]
    · isplitl [Hv0] <;> iassumption
    isplitl [Hv1 Hz4]
    · isplitl [Hv1] <;> iassumption
    isplitl [Hg]; · iexact Hg
    isplitl [Hx]; · iexact Hx
    isplitl [Ha]; · iexact Ha
    isplitl [Hb]; · iexact Hb
    iexists f3; iexact Ho
  unfold bodyOut idle
  iintro ⟨HO, HzB, HzS, HzR, Hr, Hw, ⟨Hv0, Hz3⟩, ⟨Hv1, Hz4⟩, Hg, Hx, Ha, Hb, Ho⟩
  iapply HQ
  isplitr [HO Hx Ha Hb Ho]
  · unfold Φ₁ zeros scratch
    isplitl [HzB Hw]
    · isplitl [HzB] <;> iassumption
    isplitl [Hz1 Hz2 Hz3 Hz4 HzS HzR]
    · isplitl [Hz1 Hz2 Hz3 Hz4]
      · isplitl [Hz1]; · iexact Hz1
        isplitl [Hz2]; · iexact Hz2
        isplitl [Hz3] <;> iassumption
      isplitl [HzS] <;> iassumption
    isplitl [Hg]
    · iexists _; iexact Hg
    isplitl [Hr0 Hr]
    · iapply (landing_join c)
      isplitl [Hr0] <;> iassumption
    iapply (halves_join c)
    isplitl [Hv0] <;> iassumption
  isplitl [HO]; · iexact HO
  isplitl [Hx]; · iexact Hx
  isplitl [Ha]; · iexact Ha
  isplitl [Hb] <;> iassumption

set_option maxRecDepth 4000 in
def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost (c : Dev nD) : sProp 𝕄 :=
  iprop(Φ₁ m ρ c ∗ (dats m ρ 0 c).owesAt () t0_0.succ ∗ stg c cc0_stg0_0 (xstg m ρ c) ∗ stg c cc0_stg1_0 (astg m ρ c)
    ∗ stg c cc0_stg2_0 (bstg m ρ c) ∗ stg c cc0_stg3_0 (outAt m ρ c))

/-- The printed body, on the staging buffers the pipeline passes it. -/
abbrev theBody : TcProg F PUnit :=
  cc0_body xM (Memref.isWhole_whole _) wM (Memref.isWhole_whole _) aM (Memref.isWhole_whole _) bM (Memref.isWhole_whole _)
      oM (Memref.isWhole_whole _) gM (Memref.isWhole_whole _) rM (Memref.isWhole_whole _) vM (Memref.isWhole_whole _)
      cc0_scratch3 cc0_scratch4 cc0_scratch5

set_option maxRecDepth 4000 in
theorem body_sound (c : Dev nD) : bodyPre m ρ c ⊢ WP c theBody (fun _ => bodyPost m ρ c) := by
  unfold theBody WP
  rw [body_eq]
  simp only [Prog.lift, Prog.bind_op, Prog.bind_ret, wp_deviceId]
  unfold bodyPre Dat.owesAt Pipeline.owesWithin
  iintro ⟨HΦ, ⟨%W, %hW, HO⟩, ⟨%d0, %g0, %h0, Hx⟩, ⟨%d1, %g1, %h1, Ha⟩, ⟨%d2, %g2, %h2, Hb⟩, ⟨%d3, %g3, %h3, Ho⟩⟩
  rw [show (dats m ρ 0 c).owed t0_0.castSucc = O₀ c from rfl]
  have e0 : g0 = xstg m ρ c := by rw [h0]; unfold Dat.before; rw [if_pos (fetch0_0 t0_0)]; rfl
  have e1 : g1 = astg m ρ c := by rw [h1]; unfold Dat.before; rw [if_pos (fetch0_1 t0_0)]; rfl
  have e2 : g2 = bstg m ρ c := by rw [h2]; unfold Dat.before; rw [if_pos (fetch0_2 t0_0)]; rfl
  subst e0 e1 e2
  iapply (device_run m ρ c g3) $$ [HΦ HO Hx Ha Hb Ho]
  · isplitl [HΦ]; · iexact HΦ
    isplitl [HO]
    · unfold owed; iexists W; iexact HO
    isplitl [Hx]; · iexact Hx
    isplitl [Ha]; · iexact Ha
    isplitl [Hb] <;> iassumption
  unfold owed bodyPost Dat.owesAt Pipeline.owesWithin
  rw [show (dats m ρ 0 c).owed t0_0.succ = 0 from rfl]
  iintro ⟨HΦ, ⟨%W', HO⟩, Hx, Ha, Hb, Ho⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Ha]
  · iexists _; isplitr; · (ipureintro; rfl)
    iexact Ha
  isplitl [Hb]
  · iexists _; isplitr; · (ipureintro; rfl)
    iexact Hb
  iexists _; isplitr; · (ipureintro; rfl)
  iexact Ho

set_option maxRecDepth 100000 in
/-- The library's body obligation on device `c`. -/
theorem body_obligation (c : Dev nD) : BodyObligation (dats (F := F) m ρ 0 c) (defs₀ (F := F)) 𝒱₀ () Set.univ := fun t => by
  rw [fin_N0 t, bigSep_W0, bigSep_W0]
  simp only [owns_whole_eq]
  exact body_sound m ρ c

end Ends

end Cert.Hops

end
-- ==== Proof.Launch.lean ====
/-
# `Launch`: the sixteen devices launched together

The cells' tokens minted and dealt around the mesh, the credits each device's cells are owed, and the run of the
whole program: it terminates, every array of the pipeline ends at `finalA`, the weight array as it was, every
semaphore at zero.
-/
module

public import proofs.«01_k».proof.Proof.Device
public import Idealize.ShloMosaic.Lib.Pipeline.CollectiveSegs

@[expose] public section

noncomputable section

namespace Cert.Hops
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The four of no hop, and the hops'. -/
abbrev OIx : Type := Fin 4 ⊕ (Fin 15 ⊕ Fin 15)
def osem : OIx → SemLoc sig
  | .inl j => .dma (match j with | 0 => sendS 0 | 1 => recvS 0 | 2 => wgtS 0 | 3 => wgtS 1)
  | .inr j => csem (.inr j)

theorem ownSemFacts : Pipeline.OwnSemFacts cfg0.spec osem := by decide +kernel

omit [FloatOps F] in
theorem ownSems0_eq (c : Dev nD) : (Pipeline.ownSems0 (Ix := Unit) (Name := ℕ) (U := UU) (Lvl := ℕ) (Val := Elt F) (τ := τ) osem c : sProp 𝕄)
    = iprop(zeros c ∗ (bigSep Finset.univ fun k : Fin 15 => semVal (sendCell c k) 0) ∗ bigSep Finset.univ fun k : Fin 15 => semVal (recvCell c k) 0) := by
  unfold Pipeline.ownSems0 zeros
  rw [BI.bigSep_univ_sum, BI.bigSep_univ_sum, BI.bigSep_univ_eq_bigSepL [(0 : Fin 4), 1, 2, 3] (by decide) (by decide)]
  rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The cells and the duties -/

theorem csem_injective : Function.Injective csem := by decide +kernel
theorem kcell_injective : Function.Injective kcell := by
  rintro ⟨c, j⟩ ⟨c', j'⟩ h
  have h1 : c = c' := congrArg (fun g : GSem nD τ sig => g.1.1) h
  have h2 : j = j' := csem_injective (congrArg Prod.snd h)
  rw [h1, h2]
def ringCells : Finset (GSem nD τ sig) := Finset.univ.map ⟨kcell, kcell_injective⟩

/-- A device's own cells' duties: its barrier's fifteen, one of each send and each receive. -/
abbrev TIx : Type := Fin 15 ⊕ (Fin 15 ⊕ Fin 15)
def tcell : TIx → CIx × Fin 15
  | .inl e => (.inl (), e)
  | .inr j => (.inr j, 0)
theorem tcell_injective : Function.Injective tcell := by decide +kernel
def tokOf (p : Dev nD × TIx) : GSem nD τ sig × ℕ × Fin 15 := (kcell (p.1, (tcell p.2).1), 0, (tcell p.2).2)
theorem tokOf_injective : Function.Injective tokOf := by
  rintro ⟨c, j⟩ ⟨c', j'⟩ h
  have h1 : (c, (tcell j).1) = (c', (tcell j').1) := kcell_injective (congrArg Prod.fst h)
  have h2 : (tcell j).2 = (tcell j').2 := congrArg (fun x => x.2.2) h
  have h3 : j = j' := tcell_injective (Prod.ext (congrArg Prod.snd h1) h2)
  exact Prod.ext (show c = c' from congrArg Prod.fst h1) h3
def ringToks : Finset (GSem nD τ sig × ℕ × Fin 15) := Finset.univ.map ⟨tokOf, tokOf_injective⟩

/-- The launch element: the pipeline's cells, the hops' cells, no local copy yet. -/
def u₀ : UU :=
  (initOf (Pipeline.cells cfgs cellOf_inj) (Pipeline.launchToks cfgs cellOf_inj), (initOf ringCells ringToks, 1))

/-- The duty tokens of device `c`'s own cells; -/
def toks (c : Dev nD) : sProp 𝕄 :=
  iprop((bigSep Finset.univ fun e : Fin 15 => dutyTok ER (barCell c) 0 e) ∗ (bigSep Finset.univ fun k : Fin 15 => dutyTok ER (sendCell c k) 0 0)
    ∗ bigSep Finset.univ fun k : Fin 15 => dutyTok ER (recvCell c k) 0 0)
/-- those of the duties it pays. -/
def payToks (c : Dev nD) : sProp 𝕄 :=
  iprop((bigSep Finset.univ fun k : Fin 15 => dutyTok ER (barCell (peer c k)) 0 k.rev) ∗ (bigSep Finset.univ fun k : Fin 15 => dutyTok ER (sendCell c k) 0 0)
    ∗ bigSep Finset.univ fun k : Fin 15 => dutyTok ER (recvCell (peer c k) k) 0 0)

omit [FloatOps F] in
/-- A family over devices and hops, dealt to the device each hop comes from. -/
theorem around (D : Dev nD → Fin 15 → sProp 𝕄) :
    bigSep Finset.univ (fun c => bigSep Finset.univ fun k => D c k) = bigSep Finset.univ fun c => bigSep Finset.univ fun k => D (peer c k) k := by
  rw [BI.bigSep_univ_comm, BI.bigSep_univ_comm (fun c k => D (peer c k) k)]
  exact BI.bigSep_congr fun k _ => BI.bigSep_univ_equiv (turn k) fun c => D c k

omit [FloatOps F] in
theorem toks_around : (bigSep Finset.univ fun c : Dev nD => (toks c : sProp 𝕄)) = bigSep Finset.univ fun c : Dev nD => payToks c := by
  unfold toks payToks
  rw [bigSep_sep', bigSep_sep', bigSep_sep', bigSep_sep',
    show (bigSep Finset.univ fun c : Dev nD => bigSep Finset.univ fun e : Fin 15 => (dutyTok ER (barCell c) 0 e : sProp 𝕄))
      = bigSep Finset.univ fun c : Dev nD => bigSep Finset.univ fun k : Fin 15 => dutyTok ER (barCell c) 0 k.rev from
        BI.bigSep_congr fun c _ => BI.bigSep_univ_equiv Fin.revPerm fun e : Fin 15 => (dutyTok ER (barCell c) 0 e : sProp 𝕄),
    around fun c k => (dutyTok ER (barCell c) 0 k.rev : sProp 𝕄), around fun c k => (dutyTok ER (recvCell c k) 0 0 : sProp 𝕄)]

/-- What the launch element deals device `c`. -/
def G (c : Dev nD) : sProp 𝕄 :=
  iprop((bigSep Finset.univ fun j : CIx => roundState ER (ringRd m ρ) (kcell (c, j)) 0)
    ∗ ((bigSep Finset.univ fun j : CIx => atPos ER (kcell (c, j)) 0 ∅ 0) ∗ bigSep Finset.univ fun j : CIx => reached ER (kcell (c, j)) 0) ∗ toks c)

/-- Every cell's invariant and first round. -/
def records (K : Dev nD × CIx → ℕ) : sProp 𝕄 :=
  iprop((bigSep Finset.univ fun p => cellInv ER (ringRd m ρ) (K p) (kcell p)) ∗ bigSep Finset.univ fun p => reached ER (kcell p) 0)
instance records_persistent (K : Dev nD × CIx → ℕ) : BI.Persistent (records m ρ K) := by unfold records; infer_instance

/-- What the global step makes of it. -/
def G' (c : Dev nD) : sProp 𝕄 := iprop((∃ K, records m ρ K) ∗ linear (F := F) c ∗ zeros c)

omit [FloatOps F] in
theorem by_cell (c : Dev nD) (Φ : GSem nD τ sig → sProp 𝕄) :
    (bigSep Finset.univ fun j : CIx => Φ (kcell (c, j)))
      = iprop(Φ (barCell c) ∗ (bigSep Finset.univ fun k => Φ (sendCell c k)) ∗ bigSep Finset.univ fun k => Φ (recvCell c k)) := by
  rw [BI.bigSep_univ_sum, BI.bigSep_univ_sum, BI.bigSep_univ_of_subsingleton ()]; rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun j : CIx => Φ (kcell (c, j)) := by
    unfold ringCells; rw [BI.bigSep_map, BI.bigSep_univ_prod]; rfl
  have hT : bigSep ringToks (fun x => (dutyTok ER x.1 x.2.1 x.2.2 : sProp 𝕄)) = bigSep Finset.univ fun c : Dev nD => toks c := by
    unfold ringToks; rw [BI.bigSep_map, BI.bigSep_univ_prod]
    exact BI.bigSep_congr fun c _ => by unfold toks; rw [BI.bigSep_univ_sum, BI.bigSep_univ_sum]; rfl
  have h := Rounds.fund ER (ringRd (F := F) m ρ) ringCells ringToks
  rw [hX, hX, hX, hT] at h
  have e : bigSep Finset.univ (G m ρ) = iprop((bigSep Finset.univ fun c : Dev nD => bigSep Finset.univ fun j : CIx => roundState ER (ringRd (F := F) m ρ) (kcell (c, j)) 0)
      ∗ ((bigSep Finset.univ fun c : Dev nD => bigSep Finset.univ fun j : CIx => atPos ER (kcell (c, j)) 0 ∅ 0)
        ∗ bigSep Finset.univ fun c : Dev nD => bigSep Finset.univ fun j : CIx => reached ER (kcell (c, j)) 0)
      ∗ bigSep Finset.univ fun c : Dev nD => toks c) := by
    unfold G; rw [bigSep_sep', bigSep_sep', bigSep_sep']
  rw [e]
  iintro HX
  imod h $$ HX with ⟨Hst, Hr, Hat, Htok⟩
  imodintro
  isplitl [Hst]; · iexact Hst
  isplitl [Hat Hr]
  · isplitl [Hat] <;> iassumption
  iexact Htok

/-- A device's counters make its cells' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j : CIx => iprop(∃ κ : ℕ, cellInv ER (ringRd m ρ) κ (kcell (c, j))))
          ∗ ((bigSep Finset.univ fun j : CIx => atPos ER (kcell (c, j)) 0 ∅ 0) ∗ bigSep Finset.univ fun j : CIx => reached ER (kcell (c, j)) 0) ∗ toks c ∗ zeros c) := by
  have hcells : iprop((bigSep Finset.univ fun j : CIx => semVal (kcell (c, j)) 0) ∗ bigSep Finset.univ fun j : CIx => roundState ER (ringRd m ρ) (kcell (c, j)) 0)
      ⊢ (|={Set.univ}=> bigSep Finset.univ fun j : CIx => iprop(∃ κ : ℕ, cellInv ER (ringRd m ρ) κ (kcell (c, j))) : sProp 𝕄) := by
    rw [← bigSep_sep']
    exact (BI.bigSep_mono fun j _ => (Rounds.body_intro ER (ringRd m ρ) (kcell (c, j))).trans inv_alloc).trans (bigSep_fupd _ _)
  unfold G
  rw [ownSems0_eq, unscopedSems0_eq]
  rw [by_cell c fun g => semVal g 0] at hcells
  iintro ⟨⟨Hz, HS, HR⟩, HB, Hst, Hat, Htok⟩
  imod hcells $$ [HS HR HB Hst] with Hinv
  · isplitl [HS HR HB]
    · isplitl [HB]; · iexact HB
      isplitl [HS] <;> iassumption
    iexact Hst
  imodintro
  isplitl [Hinv]; · iexact Hinv
  isplitl [Hat]; · iexact Hat
  isplitl [Htok] <;> iassumption

theorem share_records (K : Dev nD × CIx → ℕ) (c : Dev nD) :
    iprop(records m ρ K ∗ ((bigSep Finset.univ fun j : CIx => atPos ER (kcell (c, j)) 0 ∅ 0) ∗ payToks c ∗ zeros c)) ⊢ G' m ρ c := by
  unfold G' linear payToks
  rw [by_cell c fun g => atPos ER g 0 ∅ 0]
  iintro ⟨HR, Hat, Ht, Hz⟩
  isplitl [HR]
  · iexists K; iexact HR
  isplitl [Hat Ht]
  · isplitl [Hat] <;> iassumption
  iexact Hz

theorem regroup :
    (bigSep Finset.univ fun c : Dev nD => iprop((bigSep Finset.univ fun j : CIx => iprop(∃ κ : ℕ, cellInv ER (ringRd m ρ) κ (kcell (c, j))))
          ∗ ((bigSep Finset.univ fun j : CIx => atPos ER (kcell (c, j)) 0 ∅ 0) ∗ bigSep Finset.univ fun j : CIx => reached ER (kcell (c, j)) 0) ∗ toks c ∗ zeros c) : sProp 𝕄)
      ⊢ bigSep Finset.univ (G' m ρ) := by
  rw [bigSep_sep', bigSep_sep', bigSep_sep', bigSep_sep', toks_around,
    ← BI.bigSep_univ_prod (fun p : Dev nD × CIx => iprop(∃ κ : ℕ, cellInv ER (ringRd m ρ) κ (kcell p))),
    ← BI.bigSep_univ_prod (fun p : Dev nD × CIx => (reached ER (kcell p) 0 : sProp 𝕄))]
  have hjoin : iprop((bigSep Finset.univ fun c : Dev nD => bigSep Finset.univ fun j : CIx => atPos ER (kcell (c, j)) 0 ∅ 0)
      ∗ (bigSep Finset.univ fun c : Dev nD => payToks c) ∗ bigSep Finset.univ fun c : Dev nD => zeros c)
      = (bigSep Finset.univ fun c : Dev nD => iprop((bigSep Finset.univ fun j : CIx => atPos ER (kcell (c, j)) 0 ∅ 0) ∗ payToks c ∗ zeros c) : sProp 𝕄) := by
    rw [bigSep_sep', bigSep_sep']
  iintro ⟨HI, ⟨Hat, HR⟩, Htok, Hz⟩
  ihave HK := (BI.bigSep_exists_pi Finset.univ (fun (p : Dev nD × CIx) (κ : ℕ) => (cellInv ER (ringRd m ρ) κ (kcell p) : sProp 𝕄))) $$ HI
  icases HK with ⟨%K, HI⟩
  have hdeal : iprop(records m ρ K ∗ bigSep Finset.univ fun c : Dev nD => iprop((bigSep Finset.univ fun j : CIx => atPos ER (kcell (c, j)) 0 ∅ 0) ∗ payToks c ∗ zeros c))
      ⊢ (bigSep Finset.univ (G' m ρ) : sProp 𝕄) :=
    (sep_mono_left (BI.bigSep_of_persistent Finset.univ (records m ρ K))).trans (by
      rw [← bigSep_sep']; exact BI.bigSep_mono fun c _ => share_records m ρ K c)
  iapply hdeal
  isplitl [HI HR]
  · unfold records
    isplitl [HI] <;> iassumption
  iapply (Entails.of_eq hjoin)
  isplitl [Hat]; · iexact Hat
  isplitl [Htok] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((BI.bigSep_mono fun c _ => core_alloc m ρ c).trans (bigSep_fupd _ _)).trans (BI.fupd_mono (regroup m ρ))

/-! ## The launch credit -/

theorem bar_eq_iff {a b : Dev nD} : barCell a = barCell b ↔ a = b :=
  ⟨fun h => congrArg (fun g : GSem nD τ sig => g.1.1) h, fun h => h ▸ rfl⟩
theorem recv_eq_iff {a b : Dev nD} {k j : Fin 15} : recvCell a k = recvCell b j ↔ a = b ∧ k = j := by
  constructor
  · intro h
    have h1 := kcell_injective (a₁ := (a, .inr (.inr k))) (a₂ := (b, .inr (.inr j))) h
    exact ⟨congrArg Prod.fst h1, Sum.inr.inj (Sum.inr.inj (congrArg Prod.snd h1))⟩
  · rintro ⟨rfl, rfl⟩; rfl
theorem bar_ne_recv {a b : Dev nD} {k : Fin 15} : barCell a ≠ recvCell b k := by
  intro h
  have h1 := kcell_injective (a₁ := (a, .inl ())) (a₂ := (b, .inr (.inr k))) h
  exact absurd (congrArg Prod.snd h1) Sum.inl_ne_inr

theorem peer_eq_iff {c d : Dev nD} {k : Fin 15} : c = peer d k ↔ d = back c k :=
  ⟨fun h => by rw [h, back_peer], fun h => by rw [h, peer_back]⟩

theorem owed_bar (d c : Dev nD) : O₀ d (barCell c) () = ∑ k : Fin 15, if d = back c k then 1 else 0 := by
  unfold O₀ owedSig owedSend
  rw [hopsFrom_zero, Pi.add_apply, Finsupp.add_apply, Finset.sum_apply, Finsupp.finset_sum_apply, Finset.sum_apply, Finsupp.finset_sum_apply,
    Finset.sum_eq_zero (f := fun k => tallyAt (recvCell (peer d k) k) () N (barCell c) ()) (fun k _ => by
      rw [tallyAt_ne_cell bar_ne_recv]; rfl), Nat.add_zero]
  refine Finset.sum_congr rfl fun k _ => ?_
  rw [tallyAt_apply]
  exact if_congr ((and_iff_left rfl).trans (bar_eq_iff.trans peer_eq_iff)) rfl rfl

theorem owed_recv (d c : Dev nD) (k : Fin 15) : O₀ d (recvCell c k) () = if d = back c k then N else 0 := by
  unfold O₀ owedSig owedSend
  rw [hopsFrom_zero, Pi.add_apply, Finsupp.add_apply, Finset.sum_apply, Finsupp.finset_sum_apply, Finset.sum_apply, Finsupp.finset_sum_apply,
    Finset.sum_eq_zero (f := fun j => tallyAt (barCell (peer d j)) () 1 (recvCell c k) ()) (fun j _ => by
      rw [tallyAt_ne_cell (Ne.symm bar_ne_recv)]; rfl), Nat.zero_add,
    Finset.sum_eq_single k (fun j _ hj => by
      rw [tallyAt_apply, if_neg fun h => hj (recv_eq_iff.mp h.1).2.symm]) (fun h => absurd (Finset.mem_univ k) h), tallyAt_apply]
  exact if_congr ((and_iff_left rfl).trans (recv_eq_iff.trans ((and_iff_left rfl).trans peer_eq_iff))) rfl rfl

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => (Finset.sum_ite_eq' Finset.univ (back c k) fun _ => 1).trans (if_pos (Finset.mem_univ _))]
  rfl

theorem launch_recv (c : Dev nD) (k : Fin 15) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq' Finset.univ (back c k) fun _ => N, if_pos (Finset.mem_univ _)]

omit [FloatOps F] in
theorem creds (c : Dev nD) :
    (Pipeline.launchCred O₀ c : sProp 𝕄)
      ⊢ iprop(cred (tallyAt (barCell c) () 15) ∗ bigSep Finset.univ fun k : Fin 15 => cred (tallyAt (recvCell c k) () N)) := by
  unfold Pipeline.launchCred
  refine (BI.bigSep_subset (t := Finset.univ.map ⟨csem, csem_injective⟩) (Finset.subset_univ _)).trans ?_
  rw [BI.bigSep_map]
  have h := by_cell (F := F) c fun g => cred (tallyOn g (launchCredit (Pipeline.owing O₀) 0 g))
  refine (Entails.of_eq h).trans ?_
  simp only [launch_bar, launch_recv]
  iintro ⟨HB, -, HR⟩
  isplitl [HB] <;> iassumption

/-! ## The theorem's side conditions -/

theorem share_eq (c : Dev nD) (w : Fin cfg0.W) : (dats m ρ 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  unfold G' records start Ctx
  iintro ⟨Hw, Hlev, Hcr, -, ⟨%K, HI, HR⟩, Hl, Hz⟩
  ihave Hc := (creds (F := F) c) $$ Hcr
  icases Hc with ⟨H1, HN⟩
  imodintro
  isplitl
  · isplitl [HI HR Hlev]
    · iexists K
      isplitl [HI]; · iexact HI
      isplitl [HR] <;> iassumption
    isplitl [Hl]; · iexact Hl
    isplitl [Hz]; · iexact Hz
    isplitl [H1]; · iexact H1
    isplitl [HN]; · iexact HN
    iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N)
      ⊢ iprop((unscopedSems0 c ∗ whole c main_arg1 (warr m ρ c)) ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ scratch
  iintro ⟨HY, Hz, Hr⟩
  isplitl [HY]; · iexact HY
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Array `w` of device `c` after the run. -/
def finalA (c : Dev nD) (w : Fin cfg0.W) : Buf (Elt F) ((cfg0.win w).arr.view.loc (c : Thread nD τ)) := (dats m ρ 0 c).arrAt w cfg0.N

/-- What the run leaves: the windows' arrays at `finalA`, the weight array as it was. -/
def Left (s : MemSt nD τ sig (Elt F)) : Prop :=
  (∀ c : Dev nD, ∀ w : Fin cfg0.W, s.mem ((cfg0.win w).arr.view.loc (c : Thread nD τ)) = finalA m ρ c w)
    ∧ ∀ c : Dev nD, s.mem ((c : Thread nD τ).loc main_arg1) = m ((c : Thread nD τ).loc main_arg1)

/-- What each device's end lets be read of the final state. -/
def endOf (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)

theorem end_read (c : Dev nD) (s' : Phys nD τ sig (Elt F)) :
    iprop((unscopedSems0 c ∗ whole c main_arg1 (warr m ρ c)) ∗ emp ∗ SI s') ⊢ (|={Set.univ}=> iprop(⌜endOf m c s'.mem⌝ ∗ SI s') : sProp 𝕄) := by
  iintro ⟨⟨Hu, Hw⟩, -, HSI⟩
  ihave %hw := (SI_pointsTo_agree (st := s') (ℓ := (c : Thread nD τ).loc main_arg1) (I := Finset.univ) (q := fullShare) (f := warr m ρ c)) $$ [HSI Hw]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro; exact ⟨hs, funext fun i => hw i (Finset.mem_univ i)⟩
  iexact HSI

set_option maxRecDepth 100000 in
/-- From any memory with zero counters every weakly fair execution of the program on the sixteen devices terminates,
    leaving the arrays as `Left` says and every semaphore at zero. -/
theorem run_main : θ_run defs (onTc (τ := τ) (main (F := F))) (s₀ m ρ) (fun r => Left m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      ihave HX := (show BI.own (((Emb.inl : Emb UB (UB × Counters)).trans embR) (initOf ringCells ringToks)) ⊢ BI.own (ER (initOf ringCells ringToks))
        from Entails.of_eq rfl) $$ HX
      imod (fund_ring m ρ) $$ HX with HG
      imodintro
      isplitl [HP] <;> iassumption)
    (hglob := glob m ρ)
    (hA := fun _ _ => rfl) (hpf := fun _ k => k.elim0)
    (X := start m ρ) (Y := fun c => iprop(unscopedSems0 c ∗ whole c main_arg1 (warr m ρ c))) (Z := fun _ => iprop(emp))
    (hX := start_intro m ρ) (hin := phi0_intro m ρ) (hout := phi1_exit m ρ)
    (QY := endOf m) (hY := end_read m ρ)
    (hQ := fun _ h hs => ⟨⟨fun c w => (h c).1 w, fun c => (h c).2.2.2⟩, sem_eq_zero hs fun c => (h c).2.2.1⟩)

/-- The arrays of the input windows are as launched. -/
theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

end Cert.Hops

end
-- ==== Proof.Frames.lean ====
/-
# `Frames`: the three programs run, and leave their arguments and their semaphores as they found them

The kernel's run is stated once over any float values; its frames at the words and at the extended reals are that
run with the contents dropped. The reference is a list of host operations on a device without semaphores.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Hops
open Idealize.ShloMosaic Idealize.SL.Sem

/-- Where the run leaves the windows' arrays and the weights, a device's arguments are unchanged. -/
theorem args_left {F : FTy → Type} [FloatOps F] (m : (ℓ : Loc Cert.KernelIdeal.nD Cert.KernelIdeal.τ Cert.KernelIdeal.sig) → Buf (Elt F) ℓ)
    (ρ : Dev Cert.KernelIdeal.nD → PrngReg) {s} (h : Left m ρ s) (c : Dev Cert.KernelIdeal.nD) :
    s.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ s.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ s.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ s.mem ((c.tc : Thread Cert.KernelIdeal.nD Cert.KernelIdeal.τ).loc Cert.KernelIdeal.main_arg3) = m ((c.tc : Thread Cert.KernelIdeal.nD Cert.KernelIdeal.τ).loc Cert.KernelIdeal.main_arg3) :=
  ⟨(h.1 c 0).trans (finalA_in m ρ c 0 rfl), h.2 c, (h.1 c 1).trans (finalA_in m ρ c 1 rfl), (h.1 c 2).trans (finalA_in m ρ c 2 rfl)⟩

/-- The printed body of the two kernels is the same text, so their body tables agree; -/
theorem bodies_same : Cert.Kernel.defs₀ (F := Bits) = Cert.KernelIdeal.defs₀ (F := Bits) := by
  funext p; cases p
  · funext ℓ x
    obtain ⟨_ | n, hn⟩ := ℓ
    · obtain ⟨t, s⟩ := x; rfl
    · exact absurd hn (Nat.not_lt.2 (Nat.le_add_left _ _))
  · rfl
  · rfl
/-- and so do their programs' tables. -/
theorem defs_same : Cert.Kernel.defs (F := Bits) = Cert.KernelIdeal.defs (F := Bits) :=
  congrArg (Pipeline.defs (Cert.KernelIdeal.pcfgs (F := Bits))) bodies_same

/-- The kernel at the machine's words: it terminates, its arguments unchanged, every counter at zero. -/
theorem frame_kernel : Cert.quiescent_Kernel := fun m ρ _ =>
  (congrArg (fun d => θ_run d (onTc (τ := Cert.KernelIdeal.τ) (Cert.KernelIdeal.main (F := Bits))) _ _) defs_same).mpr
    ((θ_run Cert.KernelIdeal.defs _ _).mono (fun _ h => ⟨args_left (F := Bits) m ρ h.1, h.2⟩) (run_main (F := Bits) m ρ))

/-- The same over the extended reals. -/
theorem frame_ideal : Cert.quiescent_KernelIdeal := fun m ρ _ =>
  (θ_run Cert.KernelIdeal.defs _ _).mono (fun _ h => ⟨args_left (F := Ideal) m ρ h.1, h.2⟩) (run_main (F := Ideal) m ρ)

/-- The reference over the extended reals. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Hops

end
-- ==== Proof.Value.lean ====
/-
# `Value`: what the kernel's result is over the extended reals

Device `c`'s result at row `r`, column `n`: the sum over the sixteen devices of the products of its rows of their
blocks of `x` with the block's rows of the weights, times the two scales, and no less than zero.
-/
module

public import proofs.«01_k».proof.Proof.Launch
public import Idealize.ShloMosaic.Lib.ValueIdx
public import Idealize.ShloMosaic.Lib.ValueLayout
public import Idealize.ShloMosaic.Lib.MatmulPlain
public import Idealize.ShloMosaic.Lib.Pipeline.Value

@[expose] public section

noncomputable section

namespace Cert.Hops
open Cert.KernelIdeal Cert.KernelIdeal.Gen

open Idealize.ShloMosaic
open Idealize.ShloMosaic.TcCoe
open Idealize.ShloMosaic.ValueIdx
open Idealize.SL Idealize.SL.Sem

/-! ## Reading the parts of the buffers at an index -/

section Read
variable {F : FTy → Type} [FloatOps F]
variable (m : (ℓ : Loc nD τ sig) → Buf (Elt F) ℓ) (ρ : Dev nD → PrngReg)

omit [FloatOps F] in
/-- Slot `t` of the staging buffer, as a square block, at `(r, q)`. -/
theorem slot_read (t : Fin 16) {off : Fin 3 → Nat} (h : off = ![t.val, 0, 0]) (inb) (f : S16x256x256.Idx → Elt F .fp8e5m2) (r q : Fin 256) :
    ((gM.slice (Rect.unit (s := S16x256x256) off S1x256x256.size inb) (fun _ => rfl)).squeeze S256x256 squeezes_S1x256x256_S256x256 : Memref sig .tc .vmem S256x256 .fp8e5m2).view.read (Elt F) f (ix2 r q)
      = f (ix3 t r q) := by
  subst h
  refine (shapeCast_1ab_ab_apply ((gM.access (Rect.unit (s := S16x256x256) ![t.val, 0, 0] S1x256x256.size inb)).read (Elt F) f) shapeCasts_S1x256x256_S256x256 r q).trans ?_
  show f ((Rect.unit (s := S16x256x256) ![t.val, 0, 0] S1x256x256.size inb).emb (ix3 (0 : Fin 1) r q)) = _
  congr 1
  funext a
  apply Fin.ext
  match a with
  | ⟨0, _⟩ => show t.val + 1 * 0 = t.val; omega
  | ⟨1, _⟩ => show 0 + 1 * r.val = r.val; omega
  | ⟨2, _⟩ => show 0 + 1 * q.val = q.val; omega

/-- Row `r` of block `t` of an axis of `4096`. -/
def rowOf (t : Fin 16) (r : Fin 256) : Fin 4096 := ⟨256 * t.val + r.val, by omega⟩

omit [FloatOps F] in
/-- Rows block `t` of the weights at `(q, n)`. -/
theorem wRead_apply (c : Dev nD) (t : Fin 16) (q : Fin 256) (n : Fin 8192) :
    wRead m ρ c t (ix2 q n) = m ((c : Thread nD τ).loc main_arg1) (ix2 (rowOf t q) n) := by
  show warr m ρ c ((Rect.unit (s := S4096x8192) ![256 * t.val, 0] S256x8192.size (inb_row t)).emb (ix2 q n)) = warr m ρ c _
  congr 1
  funext a
  apply Fin.ext
  match a with
  | ⟨0, _⟩ => show 256 * t.val + 1 * q.val = 256 * t.val + q.val; omega
  | ⟨1, _⟩ => show 0 + 1 * n.val = n.val; omega

omit [FloatOps F] in
/-- The window on `x` stages the whole of the device's columns. -/
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
omit [FloatOps F] in
/-- The scales' windows stage the scales. -/
theorem astg_eq (c : Dev nD) : astg m ρ c = m ((c : Thread nD τ).loc main_arg2) := by
  have hz : (fun a => (win0_1.index (0 : Fin 1)) a * main_arg2.ty.shape.size a) = fun _ => 0 := funext fun a => by fin_cases a <;> decide
  exact Memref.read_access_unit_zero (Elt F) main_arg2 hz (fun a => by fin_cases a <;> decide) _
omit [FloatOps F] in
theorem bstg_eq (c : Dev nD) : bstg m ρ c = m ((c : Thread nD τ).loc main_arg3) := by
  have hz : (fun a => (win0_2.index (0 : Fin 1)) a * main_arg3.ty.shape.size a) = fun _ => 0 := funext fun a => by fin_cases a <;> decide
  exact Memref.read_access_unit_zero (Elt F) main_arg3 hz (fun a => by fin_cases a <;> decide) _

/-- The result array ends at what the kernel left in its window. -/
theorem finalA_out (c : Dev nD) : finalA m ρ c (3 : Fin 4) = outAt m ρ c := by
  have h : (win0_3.blk (0 : Fin 1)).view.read (Elt F) (finalA m ρ c (3 : Fin 4)) = outAt m ρ c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  have hz : (fun a => (win0_3.index (0 : Fin 1)) a * main_v1.ty.shape.size a) = fun _ => 0 := funext fun a => by fin_cases a <;> decide
  exact (Memref.read_access_unit_zero (Elt F) main_v1 hz (fun a => by fin_cases a <;> decide) _).symm.trans h
end Read

/-! ## Over the extended reals -/

variable (m : (ℓ : Loc nD τ sig) → Buf (Elt Ideal) ℓ) (ρ : Dev nD → PrngReg)

/-- Device `c`'s columns of `x`, its weights and its scales. -/
def X (c : Dev nD) (r : Fin 4096) (q : Fin 256) : EReal := m ((c : Thread nD τ).loc main_arg0) (ix2 r q)
def W (c : Dev nD) (r : Fin 4096) (n : Fin 8192) : EReal := m ((c : Thread nD τ).loc main_arg1) (ix2 r n)
def scaleA (c : Dev nD) : EReal := m ((c : Thread nD τ).loc main_arg2) one1
def scaleB (c : Dev nD) : EReal := m ((c : Thread nD τ).loc main_arg3) one1
def scale (c : Dev nD) : EReal := scaleA m c * scaleB m c

/-- What device `c` stages for place `t` is its rows block `t`: the cast changes nothing. -/
theorem gC_apply (c : Dev nD) (t : Fin 16) (r q : Fin 256) : gC m ρ c (ix3 t r q) = X m c (rowOf t r) q := by
  unfold gC k0_pay2
  rw [shapeCast_self, shapeCast_self, truncf_apply, xstg_eq]
  refine (shapeCast_apply _ shapeCasts_S4096x256_S16x256x256 (ix3 t r q) (ix2 (rowOf t r) q) ?_)
  rw [Shape.rowMajor_val_three, Shape.rowMajor_val_two]
  show (256 * t.val + r.val) * 256 + q.val = (t.val * 256 + r.val) * 256 + q.val
  omega

theorem ownB_apply (c : Dev nD) (r q : Fin 256) : ownB m ρ c (ix2 r q) = X m c (rowOf c r) q :=
  (slot_read c (off4_eq c) _ _ r q).trans (gC_apply m ρ c c r q)
theorem inB_apply (c : Dev nD) (k : Fin 15) (r q : Fin 256) : inB m ρ c k (ix2 r q) = X m (back c k) (rowOf c r) q :=
  (slot_read c ((off1_eq (back c k) k).trans (by rw [peer_back])) _ _ r q).trans (gC_apply m ρ (back c k) c r q)

/-- A block's product at `(r, n)`. -/
theorem prodB_apply (a : FVec Ideal S256x256 .fp8e5m2) (w : FVec Ideal S256x8192 .f32) (r : Fin 256) (n : Fin 8192) :
    prodB a w (ix2 r n) = ∑ q : Fin 256, a (ix2 r q) * w (ix2 q n) := by
  unfold prodB matmul
  rw [show dot_S256x256_S256x8192_S256x8192_1_0_0_1_n_n = DotDims.plain 256 256 8192 from rfl]
  refine (Ideal.matmul_plain_apply none _ _ _ r n).trans ?_
  rw [show (constant S256x8192 .f32 0x00000000#32 : FVec Ideal S256x8192 .f32) (ix2 r n) = 0 from Ideal.ofBits_zero_f32, zero_add]
  rfl

/-- What device `t`'s columns add to device `c`'s result. -/
def part (c t : Dev nD) (r : Fin 256) (n : Fin 8192) : EReal := ∑ q : Fin 256, X m t (rowOf c r) q * W m c (rowOf t q) n

theorem acc_apply (c : Dev nD) (r : Fin 256) (n : Fin 8192) (s : ℕ) :
    acc m ρ c s (ix2 r n) = part m c c r n + ∑ k ∈ Finset.range s, part m c (back c (hopN k)) r n := by
  induction s with
  | zero =>
    rw [Finset.sum_range_zero, add_zero]
    exact (prodB_apply _ _ r n).trans (Finset.sum_congr rfl fun q _ => by rw [ownB_apply, wRead_apply]; rfl)
  | succ s ih =>
    rw [Finset.sum_range_succ, ← add_assoc, ← ih]
    show addf (shapeCast S256x8192 (acc m ρ c s) _) _ (ix2 r n) = _
    rw [shapeCast_self, addf_apply, prodB_apply]
    exact congrArg _ (Finset.sum_congr rfl fun q _ => by rw [inB_apply, wRead_apply]; rfl)

/-- The device itself and the fifteen behind it are all. -/
theorem all_devices (c : Dev nD) : (Finset.univ : Finset (Dev nD)) = insert c (Finset.univ.image (back c)) := by revert c; decide +kernel
theorem self_apart (c : Dev nD) : c ∉ Finset.univ.image (back c) := by revert c; decide +kernel
theorem back_injective (c : Dev nD) : Function.Injective (back c) := by revert c; decide +kernel

theorem acc_all (c : Dev nD) (r : Fin 256) (n : Fin 8192) : acc m ρ c 15 (ix2 r n) = ∑ t : Dev nD, part m c t r n := by
  rw [acc_apply, all_devices c, Finset.sum_insert (self_apart c), Finset.sum_image fun _ _ _ _ h => back_injective c h,
    Finset.sum_range]
  exact congrArg _ (Finset.sum_congr rfl fun k _ => by rw [hopN_val])

/-- Device `c`'s result at `(r, n)`. -/
theorem out_apply (c : Dev nD) (r : Fin 256) (n : Fin 8192) :
    outAt m ρ c (ix2 r n) = max ((∑ t : Dev nD, part m c t r n) * scale m c) 0 := by
  unfold outAt k0_pay1
  rw [shapeCast_self, maximumf_apply, mulf_apply, broadcast_apply, broadcast_apply, acc_all, astg_eq, bstg_eq]
  rw [show (Scalar.ofBits .f32 0x00000000#32 : Ideal .f32) = 0 from Ideal.ofBits_zero_f32]
  rfl

end Cert.Hops

end
-- ==== Proof.Algebraic.lean ====
/-
# `Algebraic`: the kernel computes its rows of the reference's result

The reference's result at an index is one sum over the `4096` columns of `x`. Cut into sixteen runs of `256`, the runs are
the sums the kernel's devices' columns add, so device `c`'s result is rows block `c` of the reference's.
-/
module

public import proofs.«01_k».proof.Proof.Value
public import proofs.«01_k».proof.Proof.Frames
public import Idealize.ShloMosaic.Lib.StackMember
public import Idealize.ShloMosaic.Lib.IdealHost
public import Idealize.ShloMosaic.Lib.Layout

@[expose] public section

noncomputable section

namespace Cert.Hops
open Cert.KernelIdeal Cert.KernelIdeal.Gen

open Idealize.ShloMosaic
open Idealize.ShloMosaic.TcCoe
open Idealize.ShloMosaic.ValueIdx
open Idealize.SL Idealize.SL.Sem

/-- A one-element array has one index. -/
theorem idx_one (i j : S1.Idx) : i = j := funext fun a => by
  match a with
  | ⟨0, _⟩ => exact Fin.ext (by have h₁ : (i 0).val < 1 := (i 0).isLt; have h₂ : (j 0).val < 1 := (j 0).isLt; show (i 0).val = (j 0).val; omega)

/-- The reference's result, of the whole of `x`, the weights and the two scales. -/
def wanted (x : FVec Ideal Cert.ReferenceIdeal.S4096x4096 .f32) (w : FVec Ideal Cert.ReferenceIdeal.S4096x8192 .f32)
    (a b : FVec Ideal Cert.ReferenceIdeal.S1 .f32) : FVec Ideal Cert.ReferenceIdeal.S4096x8192 .f32 :=
  maximumf (mulf (Host.dotGeneral Cert.ReferenceIdeal.dot_S4096x4096_S4096x8192_S4096x8192_1_0_0_1_n_n none x w)
    (broadcastInDim Cert.ReferenceIdeal.S4096x8192 ![0, 1] Cert.ReferenceIdeal.Facts₀.bcast_S1x1_S4096x8192_0_1
      (broadcastInDim Cert.ReferenceIdeal.S1x1 ![1] Cert.ReferenceIdeal.Facts₀.bcast_S1_S1x1_1 (mulf a b))))
    (broadcastInDim Cert.ReferenceIdeal.S4096x8192 ![] Cert.ReferenceIdeal.Facts₀.bcast_S_S4096x8192 (constant Cert.ReferenceIdeal.S_ .f32 0x00000000#32))

/-- A sum over the columns, run by run. -/
theorem sum_runs (f : Fin 4096 → EReal) : ∑ k : Fin 4096, f k = ∑ t : Fin 16, ∑ q : Fin 256, f (rowOf t q) := by
  rw [← Equiv.sum_comp (finProdFinEquiv : Fin 16 × Fin 256 ≃ Fin 4096) f, Fintype.sum_prod_type]
  refine Finset.sum_congr rfl fun t _ => Finset.sum_congr rfl fun q _ => congrArg f (Fin.ext ?_)
  show q.val + 256 * t.val = 256 * t.val + q.val
  omega

theorem wanted_apply (x : FVec Ideal Cert.ReferenceIdeal.S4096x4096 .f32) (w : FVec Ideal Cert.ReferenceIdeal.S4096x8192 .f32)
    (a b : FVec Ideal Cert.ReferenceIdeal.S1 .f32) (r : Fin 4096) (n : Fin 8192) :
    wanted x w a b (ix2 r n)
      = max ((∑ t : Fin 16, ∑ q : Fin 256, x (ix2 r (rowOf t q)) * w (ix2 (rowOf t q) n)) * (a one1 * b one1)) 0 := by
  unfold wanted
  rw [maximumf_apply, mulf_apply]
  have hd : Host.dotGeneral Cert.ReferenceIdeal.dot_S4096x4096_S4096x8192_S4096x8192_1_0_0_1_n_n none x w (ix2 r n)
      = ∑ t : Fin 16, ∑ q : Fin 256, x (ix2 r (rowOf t q)) * w (ix2 (rowOf t q) n) := by
    rw [show Cert.ReferenceIdeal.dot_S4096x4096_S4096x8192_S4096x8192_1_0_0_1_n_n = DotDims.plain 4096 4096 8192 from rfl]
    exact (StackMember.dotGeneral_plain_apply none x w r n).trans (sum_runs fun k => x (ix2 r k) * w (ix2 k n))
  have hs : broadcastInDim Cert.ReferenceIdeal.S4096x8192 ![0, 1] Cert.ReferenceIdeal.Facts₀.bcast_S1x1_S4096x8192_0_1
      (broadcastInDim Cert.ReferenceIdeal.S1x1 ![1] Cert.ReferenceIdeal.Facts₀.bcast_S1_S1x1_1 (mulf a b)) (ix2 r n) = a one1 * b one1 := by
    unfold broadcastInDim
    exact congrArg (mulf a b) (idx_one _ one1)
  rw [hd, hs, broadcastInDim_scalar_apply]
  exact congrArg _ Ideal.ofBits_zero_f32

/-- Device `c`'s result is rows block `c` of what is wanted, when its columns are columns block `c` of `x` on every device. -/
theorem out_eq (m : (ℓ : Loc nD τ sig) → Buf (Elt Ideal) ℓ) (ρ : Dev nD → PrngReg)
    (x : FVec Ideal Cert.ReferenceIdeal.S4096x4096 .f32) (w : FVec Ideal Cert.ReferenceIdeal.S4096x8192 .f32) (a b : FVec Ideal Cert.ReferenceIdeal.S1 .f32)
    (h : ∀ c : Dev nD, m (c.tc.loc main_arg0) = Layout.block ⟨2, ![4096, 256]⟩ ⟨2, ![4096, 4096]⟩ 1 16 c x
      ∧ m (c.tc.loc main_arg1) = w ∧ m (c.tc.loc main_arg2) = a ∧ m (c.tc.loc main_arg3) = b) (c : Dev nD) :
    outAt m ρ c = Layout.block ⟨2, ![256, 8192]⟩ ⟨2, ![4096, 8192]⟩ 0 16 c (wanted x w a b) := by
  funext i
  obtain ⟨r, n, rfl⟩ : ∃ (r : Fin 256) (n : Fin 8192), i = ix2 r n := ⟨i 0, i 1, eq_ix2 i⟩
  rw [out_apply, Layout.block_apply]
  rw [show Layout.Tiles.idx (S := ⟨2, ![256, 8192]⟩) (T := ⟨2, ![4096, 8192]⟩) (a := 0) (k := 16) (by decide) c (ix2 r n) = ix2 (rowOf c r) n from
    funext fun z => Fin.ext (by
      match z with
      | ⟨0, _⟩ => show c.val * 256 + r.val = 256 * c.val + r.val; omega
      | ⟨1, _⟩ => rfl)]
  rw [wanted_apply]
  have hX : ∀ (t : Dev nD) (p : Fin 4096) (q : Fin 256), X m t p q = x (ix2 p (rowOf t q)) := fun t p q => by
    unfold X
    rw [(h t).1]
    show x _ = x _
    refine congrArg x (funext fun z => Fin.ext ?_)
    match z with
    | ⟨0, _⟩ => rfl
    | ⟨1, _⟩ => show t.val * 256 + q.val = 256 * t.val + q.val; omega
  have hW : ∀ (p : Fin 4096), W m c p n = w (ix2 p n) := fun p => by unfold W; rw [(h c).2.1]
  have hS : scale m c = a one1 * b one1 := by unfold scale scaleA scaleB; rw [(h c).2.2.1, (h c).2.2.2]
  rw [hS]
  exact congrArg (fun z => max (z * (a one1 * b one1)) 0)
    (Finset.sum_congr rfl fun t _ => Finset.sum_congr rfl fun q _ => by rw [hX, hW])

theorem algebraic : Cert.algebraic_KernelIdeal_ReferenceIdeal := by
  intro m ρ m' ρ' _ hagree
  refine ⟨wanted (m' ((0 : Dev Cert.ReferenceIdeal.nD).tc.loc Cert.ReferenceIdeal.main_arg0)) (m' ((0 : Dev Cert.ReferenceIdeal.nD).tc.loc Cert.ReferenceIdeal.main_arg1))
    (m' ((0 : Dev Cert.ReferenceIdeal.nD).tc.loc Cert.ReferenceIdeal.main_arg2)) (m' ((0 : Dev Cert.ReferenceIdeal.nD).tc.loc Cert.ReferenceIdeal.main_arg3)), ?_, ?_⟩
  · refine (θ_run Cert.KernelIdeal.defs _ _).mono (fun r h c => ⟨?_, args_left m ρ h.1 c⟩) (run_main (F := Ideal) m ρ)
    exact ((h.1.1 c (3 : Fin 4)).trans (finalA_out m ρ c)).trans (out_eq m ρ _ _ _ _ hagree c)
  · exact (θ_run Cert.ReferenceIdeal.defs _ _).mono (fun _ h => h 0) (Cert.ReferenceIdeal.Value.run (F := Ideal) m' ρ')

end Cert.Hops

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Hops.frame_kernel, Cert.Hops.frame_ideal, Cert.Hops.frame_reference, trivial, Cert.Hops.algebraic⟩

end Cert.Proof

end
